-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S100000x16 : Shape := ⟨2, ![100000, 16]⟩
abbrev S100x1000x512 : Shape := ⟨3, ![100, 1000, 512]⟩
abbrev S16x512 : Shape := ⟨2, ![16, 512]⟩
abbrev S512x16 : Shape := ⟨2, ![512, 16]⟩
abbrev S8x128 : Shape := ⟨2, ![8, 128]⟩
abbrev S4x1000x512 : Shape := ⟨3, ![4, 1000, 512]⟩
abbrev S2x1000x16 : Shape := ⟨3, ![2, 1000, 16]⟩
abbrev S4 : Shape := ⟨1, ![4]⟩
abbrev S2 : Shape := ⟨1, ![2]⟩
abbrev S1 : Shape := ⟨1, ![1]⟩
abbrev S_ : Shape := ⟨0, ![]⟩
abbrev S1x1000x512 : Shape := ⟨3, ![1, 1000, 512]⟩
abbrev S1000x512 : Shape := ⟨2, ![1000, 512]⟩
abbrev S1x1000x16 : Shape := ⟨3, ![1, 1000, 16]⟩
abbrev S1000x16 : Shape := ⟨2, ![1000, 16]⟩
abbrev S1x512x16 : Shape := ⟨3, ![1, 512, 16]⟩
abbrev S1x1x1 : Shape := ⟨3, ![1, 1, 1]⟩
abbrev S16 : Shape := ⟨1, ![16]⟩
abbrev S1x16 : Shape := ⟨2, ![1, 16]⟩

abbrev nBuf : Space → Nat
  | .hbm => 3
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S100000x16, .f32⟩
  | .hbm, ⟨2, _⟩ => ⟨S100000x16, .f32⟩
  | .local _ .vmem, ⟨0, _⟩ => ⟨S100x1000x512, .i8⟩
  | .local _ .vmem, ⟨1, _⟩ => ⟨S16x512, .f32⟩
  | .local _ .vmem, ⟨2, _⟩ => ⟨S512x16, .i8⟩
  | .local _ .vmem, ⟨3, _⟩ => ⟨S512x16, .i8⟩
  | .local _ .vmem, ⟨4, _⟩ => ⟨S8x128, .f32⟩
  | .local _ .vmem, ⟨5, _⟩ => ⟨S4x1000x512, .f32⟩
  | .local _ .vmem, ⟨6, _⟩ => ⟨S2x1000x16, .f32⟩
  | .local _ .vmem, ⟨7, _⟩ => ⟨S2x1000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := .none

@[reducible] def k0_t1_loop : Scf.Loop 32 :=
  let c0_i32_30 : BitVec 32 := 0#32
  let c100_i32 : BitVec 32 := 100#32
  let v34 : BitVec 32 := Scalar.addi c0_i32_30 c100_i32
  let c1_i32_31 : BitVec 32 := 1#32
  ⟨c0_i32_30, v34, c1_i32_31⟩
def k0_off1 (k0_t1 : Fin k0_t1_loop.trips) : Fin 1 → Nat :=
  let c0_i32_30 : BitVec 32 := 0#32
  let c1_i32_31 : BitVec 32 := 1#32
  let arg14 : BitVec 32 := Scf.iv c0_i32_30 c1_i32_31 k0_t1
  let c4_i32 : BitVec 32 := 4#32
  let v85 : BitVec 32 := Scalar.remsi arg14 c4_i32
  ![v85.toNat]
def k0_off2 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let c4_i32 : BitVec 32 := 4#32
  let v85 : BitVec 32 := Scalar.remsi arg14 c4_i32
  let c0_i32_67 : BitVec 32 := 0#32
  let c0_i32_68 : BitVec 32 := 0#32
  ![v85.toNat, 0, 0]
def k0_off3 (k0_t1 : Fin k0_t1_loop.trips) : Fin 2 → Nat :=
  let c0_i32_30 : BitVec 32 := 0#32
  let c1_i32_31 : BitVec 32 := 1#32
  let arg14 : BitVec 32 := Scf.iv c0_i32_30 c1_i32_31 k0_t1
  let c1000_i32_66 : BitVec 32 := 1000#32
  let v87 : BitVec 32 := Scalar.muli arg14 c1000_i32_66
  let c0_i32_69 : BitVec 32 := 0#32
  ![v87.toNat, 0]
def k0_off4 (k0_t1 : Fin k0_t1_loop.trips) : Fin 1 → Nat :=
  let c0_i32_30 : BitVec 32 := 0#32
  let c1_i32_31 : BitVec 32 := 1#32
  let arg14 : BitVec 32 := Scf.iv c0_i32_30 c1_i32_31 k0_t1
  let c2_i32_65 : BitVec 32 := 2#32
  let v86 : BitVec 32 := Scalar.remsi arg14 c2_i32_65
  ![v86.toNat]
def k0_off5 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let c2_i32_65 : BitVec 32 := 2#32
  let v86 : BitVec 32 := Scalar.remsi arg14 c2_i32_65
  let c0_i32_71 : BitVec 32 := 0#32
  let c0_i32_72 : BitVec 32 := 0#32
  ![v86.toNat, 0, 0]
def k0_off6 (k0_t1 : Fin k0_t1_loop.trips) : Fin 2 → Nat :=
  let c0_i32_30 : BitVec 32 := 0#32
  let c1_i32_31 : BitVec 32 := 1#32
  let arg14 : BitVec 32 := Scf.iv c0_i32_30 c1_i32_31 k0_t1
  let c1000_i32_70 : BitVec 32 := 1000#32
  let v93 : BitVec 32 := Scalar.muli arg14 c1000_i32_70
  let c0_i32_73 : BitVec 32 := 0#32
  ![v93.toNat, 0]
def k0_off7 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let c4_i32 : BitVec 32 := 4#32
  let v85 : BitVec 32 := Scalar.remsi arg14 c4_i32
  let v99 : Index := Scalar.indexCast v85
  let c0_74 : Index := 0#32
  let c0_75 : Index := 0#32
  ![v99.toNat, 0, 0]
def k0_off8 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let c2_i32_65 : BitVec 32 := 2#32
  let v86 : BitVec 32 := Scalar.remsi arg14 c2_i32_65
  let v102 : Index := Scalar.indexCast v86
  let c0_76 : Index := 0#32
  let c0_77 : Index := 0#32
  ![v102.toNat, 0, 0]
def k0_off9 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let v117 : Index := Scalar.indexCast arg14
  let c0_85 : Index := 0#32
  let c0_86 : Index := 0#32
  ![v117.toNat, 0, 0]
def k0_cond1 (k0_t1 : Fin k0_t1_loop.trips) : BitVec 1 :=
  let c0_i32_30 : BitVec 32 := 0#32
  let c1_i32_31 : BitVec 32 := 1#32
  let arg14 : BitVec 32 := Scf.iv c0_i32_30 c1_i32_31 k0_t1
  let c4_i32_87 : BitVec 32 := 4#32
  let v121 : BitVec 32 := Scalar.addi arg14 c4_i32_87
  let c100_i32_88 : BitVec 32 := 100#32
  let v122 : BitVec 1 := Scalar.cmpi .slt v121 c100_i32_88
  let v123 : BitVec 32 := Scalar.extui v122
  let c0_i32_89 : BitVec 32 := 0#32
  let v124 : BitVec 1 := Scalar.cmpi .ne v123 c0_i32_89
  v124

def k0_off10 (k0_t1 : Fin k0_t1_loop.trips) : Fin 1 → Nat :=
  let c0_i32_30 : BitVec 32 := 0#32
  let c1_i32_31 : BitVec 32 := 1#32
  let arg14 : BitVec 32 := Scf.iv c0_i32_30 c1_i32_31 k0_t1
  let c4_i32 : BitVec 32 := 4#32
  let v85 : BitVec 32 := Scalar.remsi arg14 c4_i32
  ![v85.toNat]
def k0_off11 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let c4_i32 : BitVec 32 := 4#32
  let v85 : BitVec 32 := Scalar.remsi arg14 c4_i32
  let c0_i32_95 : BitVec 32 := 0#32
  let c0_i32_96 : BitVec 32 := 0#32
  ![v85.toNat, 0, 0]
def k0_off12 (k0_t1 : Fin k0_t1_loop.trips) : Fin 2 → Nat :=
  let c0_i32_30 : BitVec 32 := 0#32
  let c1_i32_31 : BitVec 32 := 1#32
  let arg14 : BitVec 32 := Scf.iv c0_i32_30 c1_i32_31 k0_t1
  let c4_i32_93 : BitVec 32 := 4#32
  let v129 : BitVec 32 := Scalar.addi arg14 c4_i32_93
  let c1000_i32_94 : BitVec 32 := 1000#32
  let v130 : BitVec 32 := Scalar.muli v129 c1000_i32_94
  let c0_i32_97 : BitVec 32 := 0#32
  ![v130.toNat, 0]
def k0_cond2 (k0_t1 : Fin k0_t1_loop.trips) : BitVec 1 :=
  let c0_i32_30 : BitVec 32 := 0#32
  let c1_i32_31 : BitVec 32 := 1#32
  let arg14 : BitVec 32 := Scf.iv c0_i32_30 c1_i32_31 k0_t1
  let c2_i32_90 : BitVec 32 := 2#32
  let v125 : BitVec 32 := Scalar.addi arg14 c2_i32_90
  let c100_i32_91 : BitVec 32 := 100#32
  let v126 : BitVec 1 := Scalar.cmpi .slt v125 c100_i32_91
  let v127 : BitVec 32 := Scalar.extui v126
  let c0_i32_92 : BitVec 32 := 0#32
  let v128 : BitVec 1 := Scalar.cmpi .ne v127 c0_i32_92
  v128

def k0_off13 (k0_t1 : Fin k0_t1_loop.trips) : Fin 1 → Nat :=
  let c0_i32_30 : BitVec 32 := 0#32
  let c1_i32_31 : BitVec 32 := 1#32
  let arg14 : BitVec 32 := Scf.iv c0_i32_30 c1_i32_31 k0_t1
  let c2_i32_65 : BitVec 32 := 2#32
  let v86 : BitVec 32 := Scalar.remsi arg14 c2_i32_65
  ![v86.toNat]
def k0_off14 (k0_t1 : Fin k0_t1_loop.trips) : Fin 3 → Nat :=
  let c0_i32_30 : BitVec 32 := 0#32
  let c1_i32_31 : BitVec 32 := 1#32
  let arg14 : BitVec 32 := Scf.iv c0_i32_30 c1_i32_31 k0_t1
  let c2_i32_65 : BitVec 32 := 2#32
  let v86 : BitVec 32 := Scalar.remsi arg14 c2_i32_65
  let c0_i32_95 : BitVec 32 := 0#32
  let c0_i32_96 : BitVec 32 := 0#32
  ![v86.toNat, 0, 0]
def k0_off15 (k0_t1 : Fin k0_t1_loop.trips) : Fin 2 → Nat :=
  let c0_i32_30 : BitVec 32 := 0#32
  let c1_i32_31 : BitVec 32 := 1#32
  let arg14 : BitVec 32 := Scf.iv c0_i32_30 c1_i32_31 k0_t1
  let c2_i32_93 : BitVec 32 := 2#32
  let v129 : BitVec 32 := Scalar.addi arg14 c2_i32_93
  let c1000_i32_94 : BitVec 32 := 1000#32
  let v130 : BitVec 32 := Scalar.muli v129 c1000_i32_94
  let c0_i32_97 : BitVec 32 := 0#32
  ![v130.toNat, 0]
@[reducible] def k0_t2_loop : Scf.Loop 32 :=
  let c0_i32_51 : BitVec 32 := 0#32
  let c100_i32_52 : BitVec 32 := 100#32
  let v74 : BitVec 32 := Scalar.addi c0_i32_51 c100_i32_52
  let c1_i32_53 : BitVec 32 := 1#32
  ⟨c0_i32_51, v74, c1_i32_53⟩
def k0_cond3 (k0_t2 : Fin k0_t2_loop.trips) : BitVec 1 :=
  let c0_i32_51 : BitVec 32 := 0#32
  let c1_i32_53 : BitVec 32 := 1#32
  let arg14 : BitVec 32 := Scf.iv c0_i32_51 c1_i32_53 k0_t2
  let c2_i32_66 : BitVec 32 := 2#32
  let v86 : BitVec 1 := Scalar.cmpi .sge arg14 c2_i32_66
  let v87 : BitVec 32 := Scalar.extui v86
  let c0_i32_67 : BitVec 32 := 0#32
  let v88 : BitVec 1 := Scalar.cmpi .ne v87 c0_i32_67
  v88

def k0_off16 (k0_t2 : Fin k0_t2_loop.trips) : Fin 1 → Nat :=
  let c0_i32_51 : BitVec 32 := 0#32
  let c1_i32_53 : BitVec 32 := 1#32
  let arg14 : BitVec 32 := Scf.iv c0_i32_51 c1_i32_53 k0_t2
  let c2_i32_65 : BitVec 32 := 2#32
  let v85 : BitVec 32 := Scalar.remsi arg14 c2_i32_65
  ![v85.toNat]
def k0_off17 (k0_t2 : Fin k0_t2_loop.trips) : Fin 2 → Nat :=
  let c0_i32_51 : BitVec 32 := 0#32
  let c1_i32_53 : BitVec 32 := 1#32
  let arg14 : BitVec 32 := Scf.iv c0_i32_51 c1_i32_53 k0_t2
  let c2_i32_87 : BitVec 32 := 2#32
  let v119 : BitVec 32 := Scalar.subi arg14 c2_i32_87
  let c1000_i32_88 : BitVec 32 := 1000#32
  let v120 : BitVec 32 := Scalar.muli v119 c1000_i32_88
  let c0_i32_89 : BitVec 32 := 0#32
  ![v120.toNat, 0]
def k0_off18 (k0_t2 : Fin k0_t2_loop.trips) : Fin 3 → Nat :=
  let c0_i32_51 : BitVec 32 := 0#32
  let c1_i32_53 : BitVec 32 := 1#32
  let arg14 : BitVec 32 := Scf.iv c0_i32_51 c1_i32_53 k0_t2
  let c2_i32_65 : BitVec 32 := 2#32
  let v85 : BitVec 32 := Scalar.remsi arg14 c2_i32_65
  let c0_i32_90 : BitVec 32 := 0#32
  let c0_i32_91 : BitVec 32 := 0#32
  ![v85.toNat, 0, 0]
def k0_off19 (k0_t2 : Fin k0_t2_loop.trips) : Fin 3 → Nat :=
  let c0_i32_51 : BitVec 32 := 0#32
  let c1_i32_53 : BitVec 32 := 1#32
  let arg14 : BitVec 32 := Scf.iv c0_i32_51 c1_i32_53 k0_t2
  let v89 : Index := Scalar.indexCast arg14
  let c0_68 : Index := 0#32
  let c0_69 : Index := 0#32
  ![v89.toNat, 0, 0]
def k0_off20 (k0_t2 : Fin k0_t2_loop.trips) : Fin 3 → Nat :=
  let c0_i32_51 : BitVec 32 := 0#32
  let c1_i32_53 : BitVec 32 := 1#32
  let arg14 : BitVec 32 := Scf.iv c0_i32_51 c1_i32_53 k0_t2
  let c2_i32_65 : BitVec 32 := 2#32
  let v85 : BitVec 32 := Scalar.remsi arg14 c2_i32_65
  let v109 : Index := Scalar.indexCast v85
  let c0_81 : Index := 0#32
  let c0_82 : Index := 0#32
  ![v109.toNat, 0, 0]
def k0_off21 (k0_t2 : Fin k0_t2_loop.trips) : Fin 1 → Nat :=
  let c0_i32_51 : BitVec 32 := 0#32
  let c1_i32_53 : BitVec 32 := 1#32
  let arg14 : BitVec 32 := Scf.iv c0_i32_51 c1_i32_53 k0_t2
  let c2_i32_65 : BitVec 32 := 2#32
  let v85 : BitVec 32 := Scalar.remsi arg14 c2_i32_65
  ![v85.toNat]
def k0_off22 (k0_t2 : Fin k0_t2_loop.trips) : Fin 2 → Nat :=
  let c0_i32_51 : BitVec 32 := 0#32
  let c1_i32_53 : BitVec 32 := 1#32
  let arg14 : BitVec 32 := Scf.iv c0_i32_51 c1_i32_53 k0_t2
  let c1000_i32_83 : BitVec 32 := 1000#32
  let v113 : BitVec 32 := Scalar.muli arg14 c1000_i32_83
  let c0_i32_84 : BitVec 32 := 0#32
  ![v113.toNat, 0]
def k0_off23 (k0_t2 : Fin k0_t2_loop.trips) : Fin 3 → Nat :=
  let c0_i32_51 : BitVec 32 := 0#32
  let c1_i32_53 : BitVec 32 := 1#32
  let arg14 : BitVec 32 := Scf.iv c0_i32_51 c1_i32_53 k0_t2
  let c2_i32_65 : BitVec 32 := 2#32
  let v85 : BitVec 32 := Scalar.remsi arg14 c2_i32_65
  let c0_i32_85 : BitVec 32 := 0#32
  let c0_i32_86 : BitVec 32 := 0#32
  ![v85.toNat, 0, 0]
-- ==== ReferenceIdeal.lean ====
abbrev S100000x512 : Shape := ⟨2, ![100000, 512]⟩
abbrev S100000x16 : Shape := ⟨2, ![100000, 16]⟩
abbrev S512x100000 : Shape := ⟨2, ![512, 100000]⟩
abbrev S512x16 : Shape := ⟨2, ![512, 16]⟩
abbrev S_ : Shape := ⟨0, ![]⟩
abbrev S16 : Shape := ⟨1, ![16]⟩
abbrev S1x16 : Shape := ⟨2, ![1, 16]⟩

abbrev nBuf : Space → Nat
  | .hbm => 44
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x16, .f32⟩
  | .hbm, ⟨2, _⟩ => ⟨S512x100000, .f32⟩
  | .hbm, ⟨3, _⟩ => ⟨S512x16, .f32⟩
  | .hbm, ⟨4, _⟩ => ⟨S_, .f32⟩
  | .hbm, ⟨5, _⟩ => ⟨S100000x512, .f32⟩
  | .hbm, ⟨6, _⟩ => ⟨S100000x512, .f32⟩
  | .hbm, ⟨7, _⟩ => ⟨S_, .f32⟩
  | .hbm, ⟨8, _⟩ => ⟨S100000x512, .f32⟩
  | .hbm, ⟨9, _⟩ => ⟨S100000x512, .f32⟩
  | .hbm, ⟨10, _⟩ => ⟨S100000x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S100000x512, .f32⟩
  | .hbm, ⟨15, _⟩ => ⟨S100000x512, .f32⟩
  | .hbm, ⟨16, _⟩ => ⟨S_, .f32⟩
  | .hbm, ⟨17, _⟩ => ⟨S100000x512, .f32⟩
  | .hbm, ⟨18, _⟩ => ⟨S100000x512, .f32⟩
  | .hbm, ⟨19, _⟩ => ⟨S512x16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S512x16, .f32⟩
  | .hbm, ⟨27, _⟩ => ⟨S512x16, .f32⟩
  | .hbm, ⟨28, _⟩ => ⟨S512x16, .f32⟩
  | .hbm, ⟨29, _⟩ => ⟨S100000x16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S1x16, .f32⟩
  | .hbm, ⟨42, _⟩ => ⟨S100000x16, .f32⟩
  | .hbm, ⟨43, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Proof.Names.lean ====
/-
  Names for the pieces of memory the kernel moves: the hundred row tiles of the adjacency matrix, of the embeddings and of
  the result; the slots of the three staging rings; the rings' semaphores. Every slice the kernel body computes from a
  trip number is one of these, which this module proves offset by offset.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The arrays and the scratch buffers -/

abbrev adjM : Memref sig .tc .hbm S100000x512 .f32 := Memref.whole main_arg0
abbrev embM : Memref sig .tc .hbm S100000x16 .f32 := Memref.whole main_arg1
abbrev outM : Memref sig .tc .hbm S100000x16 .f32 := Memref.whole main_v0
abbrev cacheM : Memref sig .tc .vmem S100x1000x512 .i8 := Memref.whole cc0_scratch0
abbrev latM : Memref sig .tc .vmem S16x512 .f32 := Memref.whole cc0_scratch1
abbrev hiM : Memref sig .tc .vmem S512x16 .i8 := Memref.whole cc0_scratch2
abbrev loM : Memref sig .tc .vmem S512x16 .i8 := Memref.whole cc0_scratch3
abbrev rowM : Memref sig .tc .vmem S8x128 .f32 := Memref.whole cc0_scratch4
abbrev adjRing : Memref sig .tc .vmem S4x1000x512 .f32 := Memref.whole cc0_scratch5
abbrev embRing : Memref sig .tc .vmem S2x1000x16 .f32 := Memref.whole cc0_scratch6
abbrev outRing : Memref sig .tc .vmem S2x1000x16 .f32 := Memref.whole cc0_scratch7

/-! ## Tile and slot positions -/

abbrev tileAt (b : Fin 100) : Fin 2 → Nat := ![1000 * b.val, 0]
theorem tileAt_adj (b : Fin 100) : ∀ a, tileAt b a + S1000x512.size a ≤ S100000x512.size a := by
  have := b.isLt; intro a; fin_cases a
  · show 1000 * b.val + 1000 ≤ 100000; omega
  · show 0 + 512 ≤ 512; omega
theorem tileAt_emb (b : Fin 100) : ∀ a, tileAt b a + S1000x16.size a ≤ S100000x16.size a := by
  have := b.isLt; intro a; fin_cases a
  · show 1000 * b.val + 1000 ≤ 100000; omega
  · show 0 + 16 ≤ 16; omega

abbrev slotAt {n : Nat} (s : Fin n) : Fin 3 → Nat := ![s.val, 0, 0]
theorem slotAt_adj (s : Fin 4) : ∀ a, slotAt s a + S1x1000x512.size a ≤ S4x1000x512.size a := by
  have := s.isLt; intro a; fin_cases a
  · show s.val + 1 ≤ 4; omega
  · show 0 + 1000 ≤ 1000; omega
  · show 0 + 512 ≤ 512; omega
theorem slotAt_two (s : Fin 2) : ∀ a, slotAt s a + S1x1000x16.size a ≤ S2x1000x16.size a := by
  have := s.isLt; intro a; fin_cases a
  · show s.val + 1 ≤ 2; omega
  · show 0 + 1000 ≤ 1000; omega
  · show 0 + 16 ≤ 16; omega
theorem slotAt_cache (s : Fin 100) : ∀ a, slotAt s a + S1x1000x512.size a ≤ S100x1000x512.size a := by
  have := s.isLt; intro a; fin_cases a
  · show s.val + 1 ≤ 100; omega
  · show 0 + 1000 ≤ 1000; omega
  · show 0 + 512 ≤ 512; omega

abbrev semAt {n : Nat} (s : Fin n) : Fin 1 → Nat := ![s.val]
theorem semAt_four (s : Fin 4) : ∀ a, semAt s a + S1.size a ≤ S4.size a := by
  have := s.isLt; intro a; fin_cases a; show s.val + 1 ≤ 4; omega
theorem semAt_two (s : Fin 2) : ∀ a, semAt s a + S1.size a ≤ S2.size a := by
  have := s.isLt; intro a; fin_cases a; show s.val + 1 ≤ 2; omega

/-! ## The named pieces -/

/-- Row tile `b` of the adjacency matrix. -/
def adjTile (b : Fin 100) : Memref sig .tc .hbm S1000x512 .f32 :=
  adjM.slice (Rect.unit (s := S100000x512) (tileAt b) S1000x512.size (tileAt_adj b)) (fun _ => rfl)
/-- Row tile `b` of the embeddings. -/
def embTile (b : Fin 100) : Memref sig .tc .hbm S1000x16 .f32 :=
  embM.slice (Rect.unit (s := S100000x16) (tileAt b) S1000x16.size (tileAt_emb b)) (fun _ => rfl)
/-- Row tile `b` of the result. -/
def outTile (b : Fin 100) : Memref sig .tc .hbm S1000x16 .f32 :=
  outM.slice (Rect.unit (s := S100000x16) (tileAt b) S1000x16.size (tileAt_emb b)) (fun _ => rfl)
/-- Slot `s` of the ring the adjacency tiles arrive in. -/
def adjSlot (s : Fin 4) : Memref sig .tc .vmem S1000x512 .f32 :=
  (adjRing.slice (Rect.unit (s := S4x1000x512) (slotAt s) S1x1000x512.size (slotAt_adj s)) (fun _ => rfl)).squeeze S1000x512 squeezes_S1x1000x512_S1000x512
/-- Slot `s` of the ring the embedding tiles arrive in. -/
def embSlot (s : Fin 2) : Memref sig .tc .vmem S1000x16 .f32 :=
  (embRing.slice (Rect.unit (s := S2x1000x16) (slotAt s) S1x1000x16.size (slotAt_two s)) (fun _ => rfl)).squeeze S1000x16 squeezes_S1x1000x16_S1000x16
/-- Slot `s` of the ring the result tiles leave from. -/
def outSlot (s : Fin 2) : Memref sig .tc .vmem S1000x16 .f32 :=
  (outRing.slice (Rect.unit (s := S2x1000x16) (slotAt s) S1x1000x16.size (slotAt_two s)) (fun _ => rfl)).squeeze S1000x16 squeezes_S1x1000x16_S1000x16
def adjSem (s : Fin 4) : DmaSems sig S_ := (cc0_scratch8.slice (Rect.unit (s := S4) (semAt s) S1.size (semAt_four s))).squeeze S_ squeezes_S1_S_
def embSem (s : Fin 2) : DmaSems sig S_ := (cc0_scratch9.slice (Rect.unit (s := S2) (semAt s) S1.size (semAt_two s))).squeeze S_ squeezes_S1_S_
def outSem (s : Fin 2) : DmaSems sig S_ := (cc0_scratch10.slice (Rect.unit (s := S2) (semAt s) S1.size (semAt_two s))).squeeze S_ squeezes_S1_S_

instance {n : Nat} (s : Fin n) : ClosedOff (slotAt s) := ⟨slotAt s, rfl⟩
instance (b : Fin 100) : ClosedOff (tileAt b) := ⟨tileAt b, rfl⟩

/-! ## The computed offsets, pass one -/

theorem trips1 : k0_t1_loop.trips = 100 := by decide
theorem trips2 : k0_t2_loop.trips = 100 := by decide

section PassOne
variable (k : Fin k0_t1_loop.trips)

theorem off1_eq : k0_off1 k = semAt (Ring.sl 4 k.val) := by revert k; decide
theorem off2_eq : k0_off2 k = slotAt (Ring.sl 4 k.val) := by revert k; decide
theorem off3_eq : k0_off3 k = tileAt (Ring.bk 100 k.val) := by revert k; decide
theorem off4_eq : k0_off4 k = semAt (Ring.sl 2 k.val) := by revert k; decide
theorem off5_eq : k0_off5 k = slotAt (Ring.sl 2 k.val) := by revert k; decide
theorem off6_eq : k0_off6 k = tileAt (Ring.bk 100 k.val) := by revert k; decide
theorem off7_eq : k0_off7 k = slotAt (Ring.sl 4 k.val) := by revert k; decide
theorem off8_eq : k0_off8 k = slotAt (Ring.sl 2 k.val) := by revert k; decide
theorem off9_eq : k0_off9 k = slotAt (Ring.bk 100 k.val) := by revert k; decide
theorem off10_eq : k0_off10 k = semAt (Ring.sl 4 k.val) := by revert k; decide
theorem off11_eq : k0_off11 k = slotAt (Ring.sl 4 k.val) := by revert k; decide
theorem off12_eq : k.val + 4 < 100 → k0_off12 k = tileAt (Ring.bk 100 (k.val + 4)) := by revert k; decide
theorem off13_eq : k0_off13 k = semAt (Ring.sl 2 k.val) := by revert k; decide
theorem off14_eq : k0_off14 k = slotAt (Ring.sl 2 k.val) := by revert k; decide
theorem off15_eq : k.val + 2 < 100 → k0_off15 k = tileAt (Ring.bk 100 (k.val + 2)) := by revert k; decide
theorem cond1_pos : k.val + 4 < 100 → k0_cond1 k = 1#1 := by revert k; decide
theorem cond1_neg : ¬ k.val + 4 < 100 → ¬ k0_cond1 k = 1#1 := by revert k; decide
theorem cond2_pos : k.val + 2 < 100 → k0_cond2 k = 1#1 := by revert k; decide
theorem cond2_neg : ¬ k.val + 2 < 100 → ¬ k0_cond2 k = 1#1 := by revert k; decide

end PassOne

/-! ## The computed offsets, pass two -/

section PassTwo
variable (k : Fin k0_t2_loop.trips)

theorem off16_eq : k0_off16 k = semAt (Ring.sl 2 k.val) := by revert k; decide
theorem off17_eq : 2 ≤ k.val → k0_off17 k = tileAt (Ring.bk 100 (k.val - 2)) := by revert k; decide
theorem off18_eq : k0_off18 k = slotAt (Ring.sl 2 k.val) := by revert k; decide
theorem off19_eq : k0_off19 k = slotAt (Ring.bk 100 k.val) := by revert k; decide
theorem off20_eq : k0_off20 k = slotAt (Ring.sl 2 k.val) := by revert k; decide
theorem off21_eq : k0_off21 k = semAt (Ring.sl 2 k.val) := by revert k; decide
theorem off22_eq : k0_off22 k = tileAt (Ring.bk 100 k.val) := by revert k; decide
theorem off23_eq : k0_off23 k = slotAt (Ring.sl 2 k.val) := by revert k; decide
theorem cond3_pos : 2 ≤ k.val → k0_cond3 k = 1#1 := by revert k; decide
theorem cond3_neg : ¬ 2 ≤ k.val → ¬ k0_cond3 k = 1#1 := by revert k; decide

end PassTwo

instance (k : Fin k0_t1_loop.trips) : ClosedOff (k0_off7 k) := ⟨_, off7_eq k⟩
instance (k : Fin k0_t1_loop.trips) : ClosedOff (k0_off8 k) := ⟨_, off8_eq k⟩
instance (k : Fin k0_t1_loop.trips) : ClosedOff (k0_off9 k) := ⟨_, off9_eq k⟩
instance (k : Fin k0_t2_loop.trips) : ClosedOff (k0_off19 k) := ⟨_, off19_eq k⟩
instance (k : Fin k0_t2_loop.trips) : ClosedOff (k0_off20 k) := ⟨_, off20_eq k⟩

/-! ## Equal offsets name the same piece -/

theorem adjSem_of {off : Fin 1 → Nat} {s : Fin 4} (e : off = semAt s) (hh) :
    (cc0_scratch8.slice (Rect.unit (s := S4) off S1.size hh)).squeeze S_ squeezes_S1_S_ = adjSem s := by subst e; rfl
theorem embSem_of {off : Fin 1 → Nat} {s : Fin 2} (e : off = semAt s) (hh) :
    (cc0_scratch9.slice (Rect.unit (s := S2) off S1.size hh)).squeeze S_ squeezes_S1_S_ = embSem s := by subst e; rfl
theorem outSem_of {off : Fin 1 → Nat} {s : Fin 2} (e : off = semAt s) (hh) :
    (cc0_scratch10.slice (Rect.unit (s := S2) off S1.size hh)).squeeze S_ squeezes_S1_S_ = outSem s := by subst e; rfl
theorem adjSlot_of {off : Fin 3 → Nat} {s : Fin 4} (e : off = slotAt s) (hh hs) :
    (adjRing.slice (Rect.unit (s := S4x1000x512) off S1x1000x512.size hh) hs).squeeze S1000x512 squeezes_S1x1000x512_S1000x512 = adjSlot s := by subst e; rfl
theorem embSlot_of {off : Fin 3 → Nat} {s : Fin 2} (e : off = slotAt s) (hh hs) :
    (embRing.slice (Rect.unit (s := S2x1000x16) off S1x1000x16.size hh) hs).squeeze S1000x16 squeezes_S1x1000x16_S1000x16 = embSlot s := by subst e; rfl
theorem outSlot_of {off : Fin 3 → Nat} {s : Fin 2} (e : off = slotAt s) (hh hs) :
    (outRing.slice (Rect.unit (s := S2x1000x16) off S1x1000x16.size hh) hs).squeeze S1000x16 squeezes_S1x1000x16_S1000x16 = outSlot s := by subst e; rfl
theorem adjTile_of {off : Fin 2 → Nat} {b : Fin 100} (e : off = tileAt b) (hh hs) :
    adjM.slice (Rect.unit (s := S100000x512) off S1000x512.size hh) hs = adjTile b := by subst e; rfl
theorem embTile_of {off : Fin 2 → Nat} {b : Fin 100} (e : off = tileAt b) (hh hs) :
    embM.slice (Rect.unit (s := S100000x16) off S1000x16.size hh) hs = embTile b := by subst e; rfl
theorem outTile_of {off : Fin 2 → Nat} {b : Fin 100} (e : off = tileAt b) (hh hs) :
    outM.slice (Rect.unit (s := S100000x16) off S1000x16.size hh) hs = outTile b := by subst e; rfl

/-! ### The slices written with literal positions -/

@[sl_canon] theorem adjSem_lit0 (hh) : (cc0_scratch8.slice (Rect.unit (s := S4) ![0] S1.size hh)).squeeze S_ squeezes_S1_S_ = adjSem 0 := adjSem_of (by decide) _
@[sl_canon] theorem adjSlot_lit0 (hh hs) : (adjRing.slice (Rect.unit (s := S4x1000x512) ![0, 0, 0] S1x1000x512.size hh) hs).squeeze S1000x512 squeezes_S1x1000x512_S1000x512 = adjSlot 0 := adjSlot_of (by decide) _ _
@[sl_canon] theorem adjTile_lit0 (hh hs) : adjM.slice (Rect.unit (s := S100000x512) ![0, 0] S1000x512.size hh) hs = adjTile 0 := adjTile_of (by decide) _ _
@[sl_canon] theorem adjSem_lit1 (hh) : (cc0_scratch8.slice (Rect.unit (s := S4) ![1] S1.size hh)).squeeze S_ squeezes_S1_S_ = adjSem 1 := adjSem_of (by decide) _
@[sl_canon] theorem adjSlot_lit1 (hh hs) : (adjRing.slice (Rect.unit (s := S4x1000x512) ![1, 0, 0] S1x1000x512.size hh) hs).squeeze S1000x512 squeezes_S1x1000x512_S1000x512 = adjSlot 1 := adjSlot_of (by decide) _ _
@[sl_canon] theorem adjTile_lit1 (hh hs) : adjM.slice (Rect.unit (s := S100000x512) ![1000, 0] S1000x512.size hh) hs = adjTile 1 := adjTile_of (by decide) _ _
@[sl_canon] theorem adjSem_lit2 (hh) : (cc0_scratch8.slice (Rect.unit (s := S4) ![2] S1.size hh)).squeeze S_ squeezes_S1_S_ = adjSem 2 := adjSem_of (by decide) _
@[sl_canon] theorem adjSlot_lit2 (hh hs) : (adjRing.slice (Rect.unit (s := S4x1000x512) ![2, 0, 0] S1x1000x512.size hh) hs).squeeze S1000x512 squeezes_S1x1000x512_S1000x512 = adjSlot 2 := adjSlot_of (by decide) _ _
@[sl_canon] theorem adjTile_lit2 (hh hs) : adjM.slice (Rect.unit (s := S100000x512) ![2000, 0] S1000x512.size hh) hs = adjTile 2 := adjTile_of (by decide) _ _
@[sl_canon] theorem adjSem_lit3 (hh) : (cc0_scratch8.slice (Rect.unit (s := S4) ![3] S1.size hh)).squeeze S_ squeezes_S1_S_ = adjSem 3 := adjSem_of (by decide) _
@[sl_canon] theorem adjSlot_lit3 (hh hs) : (adjRing.slice (Rect.unit (s := S4x1000x512) ![3, 0, 0] S1x1000x512.size hh) hs).squeeze S1000x512 squeezes_S1x1000x512_S1000x512 = adjSlot 3 := adjSlot_of (by decide) _ _
@[sl_canon] theorem adjTile_lit3 (hh hs) : adjM.slice (Rect.unit (s := S100000x512) ![3000, 0] S1000x512.size hh) hs = adjTile 3 := adjTile_of (by decide) _ _
@[sl_canon] theorem embSem_lit0 (hh) : (cc0_scratch9.slice (Rect.unit (s := S2) ![0] S1.size hh)).squeeze S_ squeezes_S1_S_ = embSem 0 := embSem_of (by decide) _
@[sl_canon] theorem embSlot_lit0 (hh hs) : (embRing.slice (Rect.unit (s := S2x1000x16) ![0, 0, 0] S1x1000x16.size hh) hs).squeeze S1000x16 squeezes_S1x1000x16_S1000x16 = embSlot 0 := embSlot_of (by decide) _ _
@[sl_canon] theorem embTile_lit0 (hh hs) : embM.slice (Rect.unit (s := S100000x16) ![0, 0] S1000x16.size hh) hs = embTile 0 := embTile_of (by decide) _ _
@[sl_canon] theorem outSem_lit0 (hh) : (cc0_scratch10.slice (Rect.unit (s := S2) ![0] S1.size hh)).squeeze S_ squeezes_S1_S_ = outSem 0 := outSem_of (by decide) _
@[sl_canon] theorem outSlot_lit0 (hh hs) : (outRing.slice (Rect.unit (s := S2x1000x16) ![0, 0, 0] S1x1000x16.size hh) hs).squeeze S1000x16 squeezes_S1x1000x16_S1000x16 = outSlot 0 := outSlot_of (by decide) _ _
@[sl_canon] theorem outTile_lit0 (hh hs) : outM.slice (Rect.unit (s := S100000x16) ![98000, 0] S1000x16.size hh) hs = outTile 98 := outTile_of (by decide) _ _
@[sl_canon] theorem embSem_lit1 (hh) : (cc0_scratch9.slice (Rect.unit (s := S2) ![1] S1.size hh)).squeeze S_ squeezes_S1_S_ = embSem 1 := embSem_of (by decide) _
@[sl_canon] theorem embSlot_lit1 (hh hs) : (embRing.slice (Rect.unit (s := S2x1000x16) ![1, 0, 0] S1x1000x16.size hh) hs).squeeze S1000x16 squeezes_S1x1000x16_S1000x16 = embSlot 1 := embSlot_of (by decide) _ _
@[sl_canon] theorem embTile_lit1 (hh hs) : embM.slice (Rect.unit (s := S100000x16) ![1000, 0] S1000x16.size hh) hs = embTile 1 := embTile_of (by decide) _ _
@[sl_canon] theorem outSem_lit1 (hh) : (cc0_scratch10.slice (Rect.unit (s := S2) ![1] S1.size hh)).squeeze S_ squeezes_S1_S_ = outSem 1 := outSem_of (by decide) _
@[sl_canon] theorem outSlot_lit1 (hh hs) : (outRing.slice (Rect.unit (s := S2x1000x16) ![1, 0, 0] S1x1000x16.size hh) hs).squeeze S1000x16 squeezes_S1x1000x16_S1000x16 = outSlot 1 := outSlot_of (by decide) _ _
@[sl_canon] theorem outTile_lit1 (hh hs) : outM.slice (Rect.unit (s := S100000x16) ![99000, 0] S1000x16.size hh) hs = outTile 99 := outTile_of (by decide) _ _

/-! ### The slices computed in pass one -/

section PassOneNames
variable (k : Fin k0_t1_loop.trips)

@[sl_canon] theorem adjSem_off1 (hh) : (cc0_scratch8.slice (Rect.unit (s := S4) (k0_off1 k) S1.size hh)).squeeze S_ squeezes_S1_S_ = adjSem (Ring.sl 4 k.val) := adjSem_of (off1_eq k) _
@[sl_canon] theorem adjSlot_off2 (hh hs) : (adjRing.slice (Rect.unit (s := S4x1000x512) (k0_off2 k) S1x1000x512.size hh) hs).squeeze S1000x512 squeezes_S1x1000x512_S1000x512 = adjSlot (Ring.sl 4 k.val) := adjSlot_of (off2_eq k) _ _
@[sl_canon] theorem adjTile_off3 (hh hs) : adjM.slice (Rect.unit (s := S100000x512) (k0_off3 k) S1000x512.size hh) hs = adjTile (Ring.bk 100 k.val) := adjTile_of (off3_eq k) _ _
@[sl_canon] theorem embSem_off4 (hh) : (cc0_scratch9.slice (Rect.unit (s := S2) (k0_off4 k) S1.size hh)).squeeze S_ squeezes_S1_S_ = embSem (Ring.sl 2 k.val) := embSem_of (off4_eq k) _
@[sl_canon] theorem embSlot_off5 (hh hs) : (embRing.slice (Rect.unit (s := S2x1000x16) (k0_off5 k) S1x1000x16.size hh) hs).squeeze S1000x16 squeezes_S1x1000x16_S1000x16 = embSlot (Ring.sl 2 k.val) := embSlot_of (off5_eq k) _ _
@[sl_canon] theorem embTile_off6 (hh hs) : embM.slice (Rect.unit (s := S100000x16) (k0_off6 k) S1000x16.size hh) hs = embTile (Ring.bk 100 k.val) := embTile_of (off6_eq k) _ _
@[sl_canon] theorem adjSem_off10 (hh) : (cc0_scratch8.slice (Rect.unit (s := S4) (k0_off10 k) S1.size hh)).squeeze S_ squeezes_S1_S_ = adjSem (Ring.sl 4 k.val) := adjSem_of (off10_eq k) _
@[sl_canon] theorem adjSlot_off11 (hh hs) : (adjRing.slice (Rect.unit (s := S4x1000x512) (k0_off11 k) S1x1000x512.size hh) hs).squeeze S1000x512 squeezes_S1x1000x512_S1000x512 = adjSlot (Ring.sl 4 k.val) := adjSlot_of (off11_eq k) _ _
@[sl_canon] theorem adjTile_off12 (h : k.val + 4 < 100) (hh hs) : adjM.slice (Rect.unit (s := S100000x512) (k0_off12 k) S1000x512.size hh) hs = adjTile (Ring.bk 100 (k.val + 4)) := adjTile_of (off12_eq k h) _ _
@[sl_canon] theorem embSem_off13 (hh) : (cc0_scratch9.slice (Rect.unit (s := S2) (k0_off13 k) S1.size hh)).squeeze S_ squeezes_S1_S_ = embSem (Ring.sl 2 k.val) := embSem_of (off13_eq k) _
@[sl_canon] theorem embSlot_off14 (hh hs) : (embRing.slice (Rect.unit (s := S2x1000x16) (k0_off14 k) S1x1000x16.size hh) hs).squeeze S1000x16 squeezes_S1x1000x16_S1000x16 = embSlot (Ring.sl 2 k.val) := embSlot_of (off14_eq k) _ _
@[sl_canon] theorem embTile_off15 (h : k.val + 2 < 100) (hh hs) : embM.slice (Rect.unit (s := S100000x16) (k0_off15 k) S1000x16.size hh) hs = embTile (Ring.bk 100 (k.val + 2)) := embTile_of (off15_eq k h) _ _

end PassOneNames

/-! ### The slices computed in pass two -/

section PassTwoNames
variable (k : Fin k0_t2_loop.trips)

@[sl_canon] theorem outSem_off16 (hh) : (cc0_scratch10.slice (Rect.unit (s := S2) (k0_off16 k) S1.size hh)).squeeze S_ squeezes_S1_S_ = outSem (Ring.sl 2 k.val) := outSem_of (off16_eq k) _
@[sl_canon] theorem outSlot_off18 (hh hs) : (outRing.slice (Rect.unit (s := S2x1000x16) (k0_off18 k) S1x1000x16.size hh) hs).squeeze S1000x16 squeezes_S1x1000x16_S1000x16 = outSlot (Ring.sl 2 k.val) := outSlot_of (off18_eq k) _ _
@[sl_canon] theorem outTile_off17 (h : 2 ≤ k.val) (hh hs) : outM.slice (Rect.unit (s := S100000x16) (k0_off17 k) S1000x16.size hh) hs = outTile (Ring.bk 100 (k.val - 2)) := outTile_of (off17_eq k h) _ _
@[sl_canon] theorem outSem_off21 (hh) : (cc0_scratch10.slice (Rect.unit (s := S2) (k0_off21 k) S1.size hh)).squeeze S_ squeezes_S1_S_ = outSem (Ring.sl 2 k.val) := outSem_of (off21_eq k) _
@[sl_canon] theorem outSlot_off23 (hh hs) : (outRing.slice (Rect.unit (s := S2x1000x16) (k0_off23 k) S1x1000x16.size hh) hs).squeeze S1000x16 squeezes_S1x1000x16_S1000x16 = outSlot (Ring.sl 2 k.val) := outSlot_of (off23_eq k) _ _
@[sl_canon] theorem outTile_off22 (hh hs) : outM.slice (Rect.unit (s := S100000x16) (k0_off22 k) S1000x16.size hh) hs = outTile (Ring.bk 100 k.val) := outTile_of (off22_eq k) _ _

end PassTwoNames

end Cert.Proof.Run
end
-- ==== Proof.Pieces.lean ====
/-
  What the kernel holds while it runs, as separate pieces: a tile at home in its array, a ring slot in hand, a slot's
  semaphore at zero, a tile in flight between the two. And the exchange between one trip's pieces and the next's.
-/
module

public import proofs.«01_k».proof.Proof.Names
public import Idealize.ShloMosaic.Lib.Ring.Trips

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the launch's own, beside the counters that the kernel's transfers ride on. -/
abbrev UU (nD : Nat) (τ : Topo) : Type := UR sig nD τ × Counters
local notation "𝕄" => MT nD τ sig Unit (Elt F) ℕ (UU nD τ) ℕ
abbrev 𝒱₀ : Variants := Variants.none

omit [FloatOps F] in
theorem ent_of_eq {P Q : sProp 𝕄} (e : P = Q) : P ⊢ Q := e ▸ .rfl

/-- One turn of a ring comes back to the slot it started from. -/
theorem ring_back {n : ℕ} [NeZero n] (k j : ℕ) (h : j = n) : Ring.sl n (k + j) = Ring.sl n k := by rw [h, Ring.sl_add]

section Homes

variable {N : ℕ} [NeZero N] (L : ℕ) (home : Fin N → sProp (MT nD τ sig Unit (Elt F) ℕ (UU nD τ) ℕ))

/-- Before trip `k`, with tile `k + L` still to be sent for: that tile apart from the other tiles at home. -/
theorem homes_before (k : ℕ) (hk : k + L < N) :
    bigSep (Ring.homeSet L k) home = iprop(home (Ring.bk N (k + L)) ∗ bigSep ((Ring.homeSet L k).erase (Ring.bk N (k + L))) home) := by
  conv_lhs => rw [Ring.homeSet_out L k hk, bigSep_insert (Ring.bkL_not_mem_erase L k)]
  rfl
/-- After it: tile `k` is back home beside the same rest. -/
theorem homes_after (k : ℕ) (hk : k + L < N) (hL : 0 < L) :
    bigSep (Ring.homeSet L (k + 1)) home = iprop(home (Ring.bk N k) ∗ bigSep ((Ring.homeSet L k).erase (Ring.bk N (k + L))) home) := by
  rw [Ring.homeSet_succ L k hk, bigSep_insert (Ring.bk_not_mem_erase L k (by omega) hL)]
  rfl
/-- Where nothing is left to send for, tile `k` only joins the tiles at home. -/
theorem homes_tail (k : ℕ) (hk : k < N) (hN : N ≤ k + L) (hL : 0 < L) :
    bigSep (Ring.homeSet L (k + 1)) home = iprop(home (Ring.bk N k) ∗ bigSep (Ring.homeSet L k) home) := by
  rw [Ring.homeSet_succ_tail L k hN hk, bigSep_insert (Ring.bk_not_mem_homeSet L k hk hL)]
  rfl

end Homes

section Inbound

variable (c : Dev nD) (XA : Buf (Elt F) (adjM.view.loc (c : Thread nD τ))) (XE : Buf (Elt F) (embM.view.loc (c : Thread nD τ)))

/-! ### The adjacency ring -/

abbrev adjCell (s : Fin 4) : sProp 𝕄 := semVal ((c : Thread nD τ), SemLoc.dma (adjSem s).sem) 0
abbrev adjHeld (s : Fin 4) (f : Buf (Elt F) ((adjSlot s).view.loc (c : Thread nD τ))) : sProp 𝕄 :=
  (adjSlot s).view.loc (c : Thread nD τ) ↦[(adjSlot s).view.set]{fullShare} f
abbrev adjHome (b : Fin 100) : sProp 𝕄 := (adjTile b).view.loc (c : Thread nD τ) ↦[(adjTile b).view.set]{fullShare} XA
/-- Tile `b`'s elements as they arrive. -/
abbrev adjData (b : Fin 100) : S1000x512.Idx → Elt F .f32 := ReadAs.same.apply ((adjTile b).view.read (Elt F) XA)
abbrev adjLanded (s : Fin 4) (b : Fin 100) (f : Buf (Elt F) ((adjSlot s).view.loc (c : Thread nD τ))) : Buf (Elt F) ((adjSlot s).view.loc (c : Thread nD τ)) :=
  (adjSlot s).view.writes (Elt F) f [⟨Rect.whole S1000x512, adjData c XA b⟩]
abbrev adjFlight (s : Fin 4) (b : Fin 100) (f : Buf (Elt F) ((adjSlot s).view.loc (c : Thread nD τ))) : sProp 𝕄 :=
  Transfers.Flight countersEmb (c : Thread nD τ) (SemLoc.dma (adjSem s).sem) () 64000 iprop(adjHeld c s (adjLanded c XA s b f) ∗ adjHome c XA b)
/-- A slot nothing is on the way to. -/
abbrev adjFree (s : Fin 4) : sProp 𝕄 := iprop(∃ f, adjCell c s ∗ adjHeld c s f)
abbrev adjGoing (s : Fin 4) (b : Fin 100) : sProp 𝕄 := iprop(∃ f, adjFlight c XA s b f)
/-- The slot of step `p`: its tile in flight while there is such a tile, else free. -/
abbrev adjRole (p : ℕ) : sProp 𝕄 := Ring.roleAt (adjFree c (Ring.sl 4 p)) (adjGoing c XA (Ring.sl 4 p)) p

/-! ### The embedding ring -/

abbrev embCell (s : Fin 2) : sProp 𝕄 := semVal ((c : Thread nD τ), SemLoc.dma (embSem s).sem) 0
abbrev embHeld (s : Fin 2) (f : Buf (Elt F) ((embSlot s).view.loc (c : Thread nD τ))) : sProp 𝕄 :=
  (embSlot s).view.loc (c : Thread nD τ) ↦[(embSlot s).view.set]{fullShare} f
abbrev embHome (b : Fin 100) : sProp 𝕄 := (embTile b).view.loc (c : Thread nD τ) ↦[(embTile b).view.set]{fullShare} XE
abbrev embData (b : Fin 100) : S1000x16.Idx → Elt F .f32 := ReadAs.same.apply ((embTile b).view.read (Elt F) XE)
abbrev embLanded (s : Fin 2) (b : Fin 100) (f : Buf (Elt F) ((embSlot s).view.loc (c : Thread nD τ))) : Buf (Elt F) ((embSlot s).view.loc (c : Thread nD τ)) :=
  (embSlot s).view.writes (Elt F) f [⟨Rect.whole S1000x16, embData c XE b⟩]
abbrev embFlight (s : Fin 2) (b : Fin 100) (f : Buf (Elt F) ((embSlot s).view.loc (c : Thread nD τ))) : sProp 𝕄 :=
  Transfers.Flight countersEmb (c : Thread nD τ) (SemLoc.dma (embSem s).sem) () 16000 iprop(embHeld c s (embLanded c XE s b f) ∗ embHome c XE b)
abbrev embFree (s : Fin 2) : sProp 𝕄 := iprop(∃ f, embCell c s ∗ embHeld c s f)
abbrev embGoing (s : Fin 2) (b : Fin 100) : sProp 𝕄 := iprop(∃ f, embFlight c XE s b f)
abbrev embRole (p : ℕ) : sProp 𝕄 := Ring.roleAt (embFree c (Ring.sl 2 p)) (embGoing c XE (Ring.sl 2 p)) p

/-! ### The buffers held whole -/

abbrev latHeld (f : Buf (Elt F) (latM.view.loc (c : Thread nD τ))) : sProp 𝕄 := latM.view.loc (c : Thread nD τ) ↦[latM.view.set]{fullShare} f
abbrev cacheHeld (f : Buf (Elt F) (cacheM.view.loc (c : Thread nD τ))) : sProp 𝕄 := cacheM.view.loc (c : Thread nD τ) ↦[cacheM.view.set]{fullShare} f

/-- A tile sent into a slot that still holds the tile before: in flight over that slot's contents. -/
theorem adjFlight_again (s : Fin 4) (b b' : Fin 100) :
    adjFlight c XA s b' ((adjSlot s).view.writes (Elt F) (adjSlot s).view.junk [⟨Rect.whole S1000x512, adjData c XA b⟩])
      = Transfers.Flight countersEmb (c : Thread nD τ) (SemLoc.dma (adjSem s).sem) () 64000
          iprop(adjHeld c s ((adjSlot s).view.writes (Elt F) (adjSlot s).view.junk [⟨Rect.whole S1000x512, adjData c XA b'⟩, ⟨Rect.whole S1000x512, adjData c XA b⟩])
                ∗ adjHome c XA b') := by
  simp only [adjFlight, adjLanded, View.writes]
theorem embFlight_again (s : Fin 2) (b b' : Fin 100) :
    embFlight c XE s b' ((embSlot s).view.writes (Elt F) (embSlot s).view.junk [⟨Rect.whole S1000x16, embData c XE b⟩])
      = Transfers.Flight countersEmb (c : Thread nD τ) (SemLoc.dma (embSem s).sem) () 16000
          iprop(embHeld c s ((embSlot s).view.writes (Elt F) (embSlot s).view.junk [⟨Rect.whole S1000x16, embData c XE b'⟩, ⟨Rect.whole S1000x16, embData c XE b⟩])
                ∗ embHome c XE b') := by
  simp only [embFlight, embLanded, View.writes]

end Inbound

section Outbound

variable (c : Dev nD)

/-! ### The result's ring -/

abbrev outCell (s : Fin 2) : sProp 𝕄 := semVal ((c : Thread nD τ), SemLoc.dma (outSem s).sem) 0
abbrev outHeld (s : Fin 2) (f : Buf (Elt F) ((outSlot s).view.loc (c : Thread nD τ))) : sProp 𝕄 :=
  (outSlot s).view.loc (c : Thread nD τ) ↦[(outSlot s).view.set]{fullShare} f
/-- Tile `b` of the result at contents `Y` of the whole array. -/
abbrev outAt (Y : Buf (Elt F) (outM.view.loc (c : Thread nD τ))) (b : Fin 100) : sProp 𝕄 := (outTile b).view.loc (c : Thread nD τ) ↦[(outTile b).view.set]{fullShare} Y
abbrev outFlight (s : Fin 2) (b : Fin 100) (Y : Buf (Elt F) (outM.view.loc (c : Thread nD τ))) (f : Buf (Elt F) ((outSlot s).view.loc (c : Thread nD τ))) : sProp 𝕄 :=
  Transfers.Flight countersEmb (c : Thread nD τ) (SemLoc.dma (outSem s).sem) () 16000 iprop(outAt c Y b ∗ outHeld c s f)
/-- A slot of the result's ring that nothing is leaving. -/
@[irreducible] def outFree (s : Fin 2) : sProp 𝕄 := iprop(∃ f, outCell c s ∗ outHeld c s f)
/-- A slot of the result's ring with tile `b` leaving it for an array that will then hold `Y`. -/
@[irreducible] def outGoing (Y : Buf (Elt F) (outM.view.loc (c : Thread nD τ))) (s : Fin 2) (b : Fin 100) : sProp 𝕄 := iprop(∃ f, outFlight c s b Y f)

abbrev hiHeld (f : Buf (Elt F) (hiM.view.loc (c : Thread nD τ))) : sProp 𝕄 := hiM.view.loc (c : Thread nD τ) ↦[hiM.view.set]{fullShare} f
abbrev loHeld (f : Buf (Elt F) (loM.view.loc (c : Thread nD τ))) : sProp 𝕄 := loM.view.loc (c : Thread nD τ) ↦[loM.view.set]{fullShare} f
abbrev rowHeld (f : Buf (Elt F) (rowM.view.loc (c : Thread nD τ))) : sProp 𝕄 := rowM.view.loc (c : Thread nD τ) ↦[rowM.view.set]{fullShare} f

end Outbound

end Cert.Proof.Run
end
-- ==== Proof.PassA.lean ====
/-
  PASS ONE, the hundred trips that read the adjacency matrix. Trip `k` waits for tile `k` of the matrix and of the
  embeddings, adds their product into the latent block, keeps the tile's eight-bit integers in the cache, and sends for
  tile `k + 4` of the matrix and tile `k + 2` of the embeddings into the slots it has just read. The last four trips send
  for less: hence three theorems, one per kind of trip, and the loop's invariant over them.
-/
module

public import proofs.«01_k».proof.Proof.Pieces

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip

variable (c : Dev nD) (XA : Buf (Elt F) (adjM.view.loc (c : Thread nD τ))) (XE : Buf (Elt F) (embM.view.loc (c : Thread nD τ)))

abbrev latRect : Rect S16x512 := Rect.unit (s := S16x512) ![0, 0] S16x512.size inb_S16x512_S16x512_0_0
abbrev cacheRect (k : Fin k0_t1_loop.trips) : Rect S100x1000x512 := Rect.unit (s := S100x1000x512) (k0_off9 k) S1x1000x512.size (k0_off9_inb k)

def resA (k : ℕ) (fl : Buf (Elt F) (latM.view.loc (c : Thread nD τ))) (fc : Buf (Elt F) (cacheM.view.loc (c : Thread nD τ))) : sProp 𝕄 :=
  iprop(latHeld c fl ∗ cacheHeld c fc ∗ (∃ W, owes (c : Thread nD τ) 0 W)
    ∗ bigSep (Ring.homeSet 4 k) (adjHome c XA) ∗ bigSep (Ring.homeSet 2 k) (embHome c XE)
    ∗ adjRole c XA k ∗ adjRole c XA (k + 1) ∗ adjRole c XA (k + 2) ∗ adjRole c XA (k + 3)
    ∗ embRole c XE k ∗ embRole c XE (k + 1))

abbrev tripA (k : Fin k0_t1_loop.trips) : Prog (TpuEff nD τ sig (Elt F) Λ₀ .tc) Unit :=
  k0_t1_body (F := F) adjM (Memref.isWhole_whole _) embM (Memref.isWhole_whole _) outM (Memref.isWhole_whole _) cacheM (Memref.isWhole_whole _)
    latM (Memref.isWhole_whole _) hiM (Memref.isWhole_whole _) loM (Memref.isWhole_whole _) rowM (Memref.isWhole_whole _)
    adjRing (Memref.isWhole_whole _) embRing (Memref.isWhole_whole _) outRing (Memref.isWhole_whole _) cc0_scratch8 cc0_scratch9 cc0_scratch10 k ()

/-- What trip `k` reads from its slot of the adjacency ring: the tile that has arrived there. -/
def adjRead (k : Fin k0_t1_loop.trips) : Vec F S1x1000x512 .f32 :=
  View.readAt (Elt F) adjRing.view (Rect.unit (s := S4x1000x512) (k0_off7 k) S1x1000x512.size (k0_off7_inb k)).toLoadRect
    (adjLanded c XA (Ring.sl 4 k.val) (Ring.bk 100 k.val) (adjSlot (Ring.sl 4 k.val)).view.junk)
/-- What it reads from its slot of the embedding ring. -/
def embRead (k : Fin k0_t1_loop.trips) : Vec F S1x1000x16 .f32 :=
  View.readAt (Elt F) embRing.view (Rect.unit (s := S2x1000x16) (k0_off8 k) S1x1000x16.size (k0_off8_inb k)).toLoadRect
    (embLanded c XE (Ring.sl 2 k.val) (Ring.bk 100 k.val) (embSlot (Ring.sl 2 k.val)).view.junk)
/-- The latent block after trip `k`, from what it was before. -/
def latNext (k : Fin k0_t1_loop.trips) (fl : Buf (Elt F) (latM.view.loc (c : Thread nD τ))) : Buf (Elt F) (latM.view.loc (c : Thread nD τ)) :=
  latM.view.writes (Elt F) fl [⟨latRect, k0_pay2 (adjRead c XA k) (embRead c XE k) (View.readAt (Elt F) latM.view latRect.toLoadRect fl)⟩]
/-- The cache after trip `k`. -/
def cacheNext (k : Fin k0_t1_loop.trips) (fc : Buf (Elt F) (cacheM.view.loc (c : Thread nD τ))) : Buf (Elt F) (cacheM.view.loc (c : Thread nD τ)) :=
  cacheM.view.writes (Elt F) fc [⟨cacheRect k, k0_pay6 (k0_pay3 (adjRead c XA k))⟩]

/-- A trip that sends for both its next tiles. -/
theorem trip_both (k : Fin k0_t1_loop.trips) (hk : k.val + 4 < 100) (fl : Buf (Elt F) (latM.view.loc (c : Thread nD τ))) (fc : Buf (Elt F) (cacheM.view.loc (c : Thread nD τ))) :
    resA c XA XE k fl fc ⊢ wp frame (wpE (defs₀ (F := F)) 𝒱₀ (c : Thread nD τ) none) Set.univ (tripA k)
        (fun _ => resA c XA XE (k.val + 1) (latNext c XA XE k fl) (cacheNext c XA k fc)) := by
  have hk2 : k.val + 2 < 100 := by omega
  have c1 := cond1_pos k hk
  have c2 := cond2_pos k hk2
  unfold resA
  rw [homes_before 4 _ _ hk, homes_after 4 _ _ hk (by decide), homes_before 2 _ _ hk2, homes_after 2 _ _ hk2 (by decide)]
  unfold adjRole embRole
  rw [show k.val + 1 + 3 = k.val + 4 from rfl, show k.val + 1 + 1 = k.val + 2 from rfl, show k.val + 1 + 2 = k.val + 3 from rfl]
  simp only [Ring.roleAt_of_lt _ _ k.val (show k.val < 100 by omega), Ring.roleAt_of_lt _ _ (k.val + 4) hk, Ring.roleAt_of_lt _ _ (k.val + 2) hk2]
  rw [ring_back (n := 4) k.val 4 rfl, ring_back (n := 2) k.val 2 rfl]
  iintro ⟨HL, HC, ⟨%W, HW⟩, ⟨HA4, HA⟩, ⟨HE2, HE⟩, ⟨%f0, A0⟩, A1, A2, A3, ⟨%g0, E0⟩, E1⟩
  dsimp only [tripA]
  sl_unfold [k0_t1_body]
  sl_exec
  sl_step
  isplitl [HL]; · iexact HL
  isplitl [HC]; · iexact HC
  isplitl [HW]; · iexists _; iexact HW
  isplitl [A0_src HA]
  · isplitl [A0_src]; · iexact A0_src
    iexact HA
  isplitl [E0_src HE]
  · isplitl [E0_src]; · iexact E0_src
    iexact HE
  isplitl [A1]; · iexact A1
  isplitl [A2]; · iexact A2
  isplitl [A3]; · iexact A3
  isplitl [A0]
  · iexists ((adjSlot (Ring.sl 4 k.val)).view.writes (Elt F) (adjSlot (Ring.sl 4 k.val)).view.junk [⟨Rect.whole S1000x512, adjData c XA (Ring.bk 100 k.val)⟩])
    irw [adjFlight_again]
    iexact A0
  isplitl [E1]; · iexact E1
  iexists ((embSlot (Ring.sl 2 k.val)).view.writes (Elt F) (embSlot (Ring.sl 2 k.val)).view.junk [⟨Rect.whole S1000x16, embData c XE (Ring.bk 100 k.val)⟩])
  irw [embFlight_again]
  iexact E0

/-- A trip that sends for its next tile of the embeddings only. -/
theorem trip_emb (k : Fin k0_t1_loop.trips) (hk : ¬ k.val + 4 < 100) (hk2 : k.val + 2 < 100) (fl : Buf (Elt F) (latM.view.loc (c : Thread nD τ))) (fc : Buf (Elt F) (cacheM.view.loc (c : Thread nD τ))) :
    resA c XA XE k fl fc ⊢ wp frame (wpE (defs₀ (F := F)) 𝒱₀ (c : Thread nD τ) none) Set.univ (tripA k)
        (fun _ => resA c XA XE (k.val + 1) (latNext c XA XE k fl) (cacheNext c XA k fc)) := by
  have c1 := cond1_neg k hk
  have c2 := cond2_pos k hk2
  unfold resA
  rw [homes_tail 4 _ k.val (by omega) (by omega) (by decide), homes_before 2 _ _ hk2, homes_after 2 _ _ hk2 (by decide)]
  unfold adjRole embRole
  rw [show k.val + 1 + 3 = k.val + 4 from rfl, show k.val + 1 + 1 = k.val + 2 from rfl, show k.val + 1 + 2 = k.val + 3 from rfl]
  simp only [Ring.roleAt_of_lt _ _ k.val (show k.val < 100 by omega), Ring.roleAt_of_le _ _ (k.val + 4) (show 100 ≤ k.val + 4 by omega), Ring.roleAt_of_lt _ _ (k.val + 2) hk2]
  rw [ring_back (n := 4) k.val 4 rfl, ring_back (n := 2) k.val 2 rfl]
  iintro ⟨HL, HC, ⟨%W, HW⟩, HA, ⟨HE2, HE⟩, ⟨%f0, A0⟩, A1, A2, A3, ⟨%g0, E0⟩, E1⟩
  dsimp only [tripA]
  sl_unfold [k0_t1_body]
  sl_exec
  sl_step
  isplitl [HL]; · iexact HL
  isplitl [HC]; · iexact HC
  isplitl [HW]; · iexists _; iexact HW
  isplitl [A0_src HA]
  · isplitl [A0_src]; · iexact A0_src
    iexact HA
  isplitl [E0_src HE]
  · isplitl [E0_src]; · iexact E0_src
    iexact HE
  isplitl [A1]; · iexact A1
  isplitl [A2]; · iexact A2
  isplitl [A3]; · iexact A3
  isplitl [A0 A0_dst]
  · iexists _; isplitl [A0]; · iexact A0
    iexact A0_dst
  isplitl [E1]; · iexact E1
  iexists ((embSlot (Ring.sl 2 k.val)).view.writes (Elt F) (embSlot (Ring.sl 2 k.val)).view.junk [⟨Rect.whole S1000x16, embData c XE (Ring.bk 100 k.val)⟩])
  irw [embFlight_again]
  iexact E0

/-- A trip that sends for nothing. -/
theorem trip_last (k : Fin k0_t1_loop.trips) (hk2 : ¬ k.val + 2 < 100) (fl : Buf (Elt F) (latM.view.loc (c : Thread nD τ))) (fc : Buf (Elt F) (cacheM.view.loc (c : Thread nD τ))) :
    resA c XA XE k fl fc ⊢ wp frame (wpE (defs₀ (F := F)) 𝒱₀ (c : Thread nD τ) none) Set.univ (tripA k)
        (fun _ => resA c XA XE (k.val + 1) (latNext c XA XE k fl) (cacheNext c XA k fc)) := by
  have hlt : k.val < 100 := trips1 ▸ k.isLt
  have c1 := cond1_neg k (by omega)
  have c2 := cond2_neg k hk2
  unfold resA
  rw [homes_tail 4 _ k.val hlt (by omega) (by decide), homes_tail 2 _ k.val hlt (by omega) (by decide)]
  unfold adjRole embRole
  rw [show k.val + 1 + 3 = k.val + 4 from rfl, show k.val + 1 + 1 = k.val + 2 from rfl, show k.val + 1 + 2 = k.val + 3 from rfl]
  simp only [Ring.roleAt_of_lt _ _ k.val hlt, Ring.roleAt_of_le _ _ (k.val + 4) (show 100 ≤ k.val + 4 by omega), Ring.roleAt_of_le _ _ (k.val + 2) (show 100 ≤ k.val + 2 by omega)]
  rw [ring_back (n := 4) k.val 4 rfl, ring_back (n := 2) k.val 2 rfl]
  iintro ⟨HL, HC, ⟨%W, HW⟩, HA, HE, ⟨%f0, A0⟩, A1, A2, A3, ⟨%g0, E0⟩, E1⟩
  dsimp only [tripA]
  sl_unfold [k0_t1_body]
  sl_exec
  sl_step
  isplitl [HL]; · iexact HL
  isplitl [HC]; · iexact HC
  isplitl [HW]; · iexists _; iexact HW
  isplitl [A0_src HA]
  · isplitl [A0_src]; · iexact A0_src
    iexact HA
  isplitl [E0_src HE]
  · isplitl [E0_src]; · iexact E0_src
    iexact HE
  isplitl [A1]; · iexact A1
  isplitl [A2]; · iexact A2
  isplitl [A3]; · iexact A3
  isplitl [A0 A0_dst]
  · iexists _; isplitl [A0]; · iexact A0
    iexact A0_dst
  isplitl [E1]; · iexact E1
  iexists _; isplitl [E0]; · iexact E0
  iexact E0_dst

/-- The latent block before trip `k`, from its contents at the loop's entry. -/
def latAt (fl : Buf (Elt F) (latM.view.loc (c : Thread nD τ))) : ℕ → Buf (Elt F) (latM.view.loc (c : Thread nD τ))
  | 0 => fl
  | k + 1 => if h : k < k0_t1_loop.trips then latNext c XA XE ⟨k, h⟩ (latAt fl k) else latAt fl k
/-- The cache before trip `k`. -/
def cacheAt (fc : Buf (Elt F) (cacheM.view.loc (c : Thread nD τ))) : ℕ → Buf (Elt F) (cacheM.view.loc (c : Thread nD τ))
  | 0 => fc
  | k + 1 => if h : k < k0_t1_loop.trips then cacheNext c XA ⟨k, h⟩ (cacheAt fc k) else cacheAt fc k

set_option warn.classDefReducibility false in
/-- PASS ONE's INVARIANT. -/
@[sl_loop] def passOne (fl : Buf (Elt F) (latM.view.loc (c : Thread nD τ))) (fc : Buf (Elt F) (cacheM.view.loc (c : Thread nD τ))) :
    LoopInvTy_k0_t1 (F := F) Unit ℕ (UU nD τ) ℕ 𝒱₀ c none Set.univ adjM (Memref.isWhole_whole _) embM (Memref.isWhole_whole _) outM (Memref.isWhole_whole _) cacheM (Memref.isWhole_whole _)
      latM (Memref.isWhole_whole _) hiM (Memref.isWhole_whole _) loM (Memref.isWhole_whole _) rowM (Memref.isWhole_whole _)
      adjRing (Memref.isWhole_whole _) embRing (Memref.isWhole_whole _) outRing (Memref.isWhole_whole _) cc0_scratch8 cc0_scratch9 cc0_scratch10 where
  inv k _ := resA c XA XE k (latAt c XA XE fl k) (cacheAt c XA fc k)
  step k _ := by
    rw [latAt, cacheAt, dif_pos k.isLt, dif_pos k.isLt]
    by_cases h4 : k.val + 4 < 100
    · exact trip_both c XA XE k h4 _ _
    · by_cases h2 : k.val + 2 < 100
      · exact trip_emb c XA XE k h4 h2 _ _
      · exact trip_last c XA XE k h2 _ _

end Trip
end Cert.Proof.Run
end
-- ==== Proof.PassB.lean ====
/-
  PASS TWO, the hundred trips that write the result. Trip `k` waits for the tile that left its slot two trips before,
  multiplies tile `k`'s cached integers by the two integer tables, adds the two products as `128 * high + low`, scales and
  shifts the sum, stores it in its slot and sends the slot to tile `k` of the result. The invariant holds the tiles not yet
  sent at the result array's first contents and the tiles that have arrived at its final contents.
-/
module

public import proofs.«01_k».proof.Proof.PassA
public import Idealize.ShloMosaic.Lib.Ring.WriteBehind
public import Idealize.ShloMosaic.Lib.ViewIndex

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip

variable (c : Dev nD) (XO : Buf (Elt F) (outM.view.loc (c : Thread nD τ)))
  (fc : Buf (Elt F) (cacheM.view.loc (c : Thread nD τ))) (fh : Buf (Elt F) (hiM.view.loc (c : Thread nD τ)))
  (fo : Buf (Elt F) (loM.view.loc (c : Thread nD τ))) (fr : Buf (Elt F) (rowM.view.loc (c : Thread nD τ)))

abbrev tripB (k : Fin k0_t2_loop.trips) : Prog (TpuEff nD τ sig (Elt F) Λ₀ .tc) Unit :=
  k0_t2_body (F := F) adjM (Memref.isWhole_whole _) embM (Memref.isWhole_whole _) outM (Memref.isWhole_whole _) cacheM (Memref.isWhole_whole _)
    latM (Memref.isWhole_whole _) hiM (Memref.isWhole_whole _) loM (Memref.isWhole_whole _) rowM (Memref.isWhole_whole _)
    adjRing (Memref.isWhole_whole _) embRing (Memref.isWhole_whole _) outRing (Memref.isWhole_whole _) cc0_scratch8 cc0_scratch9 cc0_scratch10 k ()

/-- What trip `k` stores into its slot: the sum of the two integer products, scaled and shifted. -/
def outWord (k : Fin k0_t2_loop.trips) : Vec F S1x1000x16 .f32 :=
  k0_pay4 (View.readAt (Elt F) cacheM.view (Rect.unit (s := S100x1000x512) (k0_off19 k) S1x1000x512.size (k0_off19_inb k)).toLoadRect fc)
    (View.readAt (Elt F) hiM.view (Rect.unit (s := S512x16) ![0, 0] S512x16.size inb_S512x16_S512x16_0_0).toLoadRect fh)
    (View.readAt (Elt F) loM.view (Rect.unit (s := S512x16) ![0, 0] S512x16.size inb_S512x16_S512x16_0_0).toLoadRect fo)
    (View.readAt (Elt F) rowM.view (Rect.unit (s := S8x128) ![1, 0] S1x16.size inb_S8x128_S1x16_1_0).toLoadRect fr)
    (View.readAt (Elt F) rowM.view (Rect.unit (s := S8x128) ![0, 0] S1x16.size inb_S8x128_S1x16_0_0).toLoadRect fr)
/-- The same as a tile: what the transfer out of the slot carries. -/
def outData (k : Fin k0_t2_loop.trips) : S1000x16.Idx → Elt F .f32 := fun x =>
  outWord c fc fh fo fr k (Shape.reshapeEquiv squeezes_S1x1000x16_S1000x16.numel_eq x)
/-- The place of row `r` within its tile. -/
def inTile (i : S100000x16.Idx) : S1000x16.Idx
  | ⟨0, _⟩ => ⟨(i 0).val % 1000, Nat.mod_lt _ (by decide)⟩
  | ⟨1, _⟩ => i 1
/-- The result array when every tile has arrived: element `(r, j)` is element `(r % 1000, j)` of tile `r / 1000`. -/
def outFinal : Buf (Elt F) (outM.view.loc (c : Thread nD τ)) := fun (i : S100000x16.Idx) =>
  outData c fc fh fo fr ⟨(i 0).val / 1000, by rw [trips2]; have : (i 0).val < 100000 := (i 0).isLt; omega⟩ (inTile i)

/-- A slot just stored into reads as what was stored. -/
theorem read_stored (s : Fin 2) {off : Fin 3 → Nat} (e : off = slotAt s) (hh : ∀ a, off a + S1x1000x16.size a ≤ S2x1000x16.size a)
    (f : Buf (Elt F) ((outSlot s).view.loc (c : Thread nD τ))) (w : Vec F S1x1000x16 .f32) :
    (outSlot s).view.read (Elt F) (View.write (Elt F) (outRing.access (Rect.unit (s := S2x1000x16) off S1x1000x16.size hh)) f w Finset.univ)
      = fun x => w (Shape.reshapeEquiv squeezes_S1x1000x16_S1000x16.numel_eq x) := by
  subst e
  funext x
  exact congrFun (View.read_write_univ (v := outRing.access (Rect.unit (s := S2x1000x16) (slotAt s) S1x1000x16.size hh)) f w) _

/-- A delivered tile is a tile of the final array. -/
theorem delivered (k : Fin k0_t2_loop.trips) :
    ((outTile (Ring.bk 100 k.val)).view.loc (c : Thread nD τ) ↦[(outTile (Ring.bk 100 k.val)).view.set]{fullShare}
        (outTile (Ring.bk 100 k.val)).view.writes (Elt F) XO [⟨Rect.whole S1000x16, outData c fc fh fo fr k⟩] : sProp 𝕄)
      = outAt c (outFinal c fc fh fo fr) (Ring.bk 100 k.val) := by
  refine pointsTo_congr fun i hi => ?_
  obtain ⟨x, -, rfl⟩ := Finset.mem_map.mp hi
  refine View.eq_of_read_eq ?_
  refine (congrFun (View.read_writes_whole _ _ _) x).trans ?_
  have hk : k.val < 100 := trips2 ▸ k.isLt
  have h0 : (x 0).val < 1000 := (x 0).isLt
  have hb : (Ring.bk 100 k.val).val = k.val := Ring.bk_val hk
  show outData c fc fh fo fr k x = outFinal c fc fh fo fr ((Rect.unit (s := S100000x16) (tileAt (Ring.bk 100 k.val)) S1000x16.size _).emb x)
  unfold outFinal
  have e0 : ((Rect.unit (s := S100000x16) (tileAt (Ring.bk 100 k.val)) S1000x16.size (tileAt_emb (Ring.bk 100 k.val))).emb x 0).val = 1000 * k.val + (x 0).val := by
    show (tileAt (Ring.bk 100 k.val)) 0 + 1 * (x 0).val = _
    show 1000 * (Ring.bk 100 k.val).val + 1 * (x 0).val = _
    omega
  congr 1
  · apply Fin.ext
    show k.val = _ / 1000
    rw [e0]; omega
  · funext a
    apply Fin.ext
    match a with
    | ⟨0, _⟩ => show (x 0).val = _ % 1000; rw [e0]; omega
    | ⟨1, _⟩ => show (x 1).val = 0 + 1 * (x 1).val; omega

/-- Trip `k`'s slot once the trip has stored into it. -/
abbrev stored (k : Fin k0_t2_loop.trips) (f : Buf (Elt F) ((outSlot (Ring.sl 2 k.val)).view.loc (c : Thread nD τ))) : Buf (Elt F) ((outSlot (Ring.sl 2 k.val)).view.loc (c : Thread nD τ)) :=
  View.write (Elt F) (outRing.access (Rect.unit (s := S2x1000x16) (k0_off20 k) S1x1000x16.size (k0_off20_inb k))) f (outWord c fc fh fo fr k) Finset.univ

/-- The tile trip `k` sends is on its way to being a tile of the final array. -/
theorem outFlight_stored (k : Fin k0_t2_loop.trips) (f : Buf (Elt F) ((outSlot (Ring.sl 2 k.val)).view.loc (c : Thread nD τ))) :
    outFlight c (Ring.sl 2 k.val) (Ring.bk 100 k.val) (outFinal c fc fh fo fr) (stored c fc fh fo fr k f)
      = Transfers.Flight countersEmb (c : Thread nD τ) (SemLoc.dma (outSem (Ring.sl 2 k.val)).sem) () 16000
          iprop(((outTile (Ring.bk 100 k.val)).view.loc (c : Thread nD τ) ↦[(outTile (Ring.bk 100 k.val)).view.set]{fullShare}
              (outTile (Ring.bk 100 k.val)).view.writes (Elt F) XO
                [⟨Rect.whole S1000x16, ReadAs.same.apply ((outSlot (Ring.sl 2 k.val)).view.read (Elt F) (stored c fc fh fo fr k f))⟩])
            ∗ outHeld c (Ring.sl 2 k.val) (stored c fc fh fo fr k f)) :=
  congrArg (fun P : sProp 𝕄 => Transfers.Flight countersEmb (c : Thread nD τ) (SemLoc.dma (outSem (Ring.sl 2 k.val)).sem) () 16000
      iprop(P ∗ outHeld c (Ring.sl 2 k.val) (stored c fc fh fo fr k f)))
    ((delivered c XO fc fh fo fr k).symm.trans
      (congrArg (fun d : S1000x16.Idx → Elt F .f32 => ((outTile (Ring.bk 100 k.val)).view.loc (c : Thread nD τ) ↦[(outTile (Ring.bk 100 k.val)).view.set]{fullShare}
              (outTile (Ring.bk 100 k.val)).view.writes (Elt F) XO [⟨Rect.whole S1000x16, d⟩] : sProp 𝕄))
        (read_stored c (Ring.sl 2 k.val) (off20_eq k) (k0_off20_inb k) f (outWord c fc fh fo fr k)).symm))

/-! ### Pass two's pieces and trips -/

/-- The slot of step `p`, used last `n` trips ago: that trip's tile in flight once there was such a trip, else free. -/
abbrev outRole (n p q : ℕ) : sProp 𝕄 := Ring.roleBAt n (outFree c (Ring.sl 2 q)) (outGoing c (outFinal c fc fh fo fr) (Ring.sl 2 q)) p

def resB (k : ℕ) : sProp 𝕄 :=
  iprop(cacheHeld c fc ∗ hiHeld c fh ∗ loHeld c fo ∗ rowHeld c fr ∗ (∃ W, owes (c : Thread nD τ) 0 W)
    ∗ bigSep (Ring.aheadSet k) (outAt c XO) ∗ bigSep (Ring.behindSet 2 k) (outAt c (outFinal c fc fh fo fr))
    ∗ outRole c fc fh fo fr 2 k k ∗ outRole c fc fh fo fr 1 k (k + 1))

/-- One of the first two trips: its slot has not been used before. -/
theorem trip_first (k : Fin k0_t2_loop.trips) (hk : ¬ 2 ≤ k.val) :
    resB c XO fc fh fo fr k ⊢ wp frame (wpE (defs₀ (F := F)) 𝒱₀ (c : Thread nD τ) none) Set.univ (tripB k)
        (fun _ => resB c XO fc fh fo fr (k.val + 1)) := by
  have c3 := cond3_neg k hk
  have hlt : k.val < 100 := trips2 ▸ k.isLt
  unfold resB
  rw [Ring.aheadSet_open k.val hlt, Ring.bigSep_put (Ring.bk_not_mem_aheadSet_succ k.val hlt), Ring.behindSet_boot 2 k.val (by omega), Ring.behindSet_boot 2 (k.val + 1) (by omega)]
  unfold outRole
  rw [Ring.roleBAt_of_lt 2 _ _ k.val (by omega), Ring.roleBAt_of_le 1 _ _ (k.val + 1) (by omega), show k.val + 1 + 1 = k.val + 2 from rfl, ring_back (n := 2) k.val 2 rfl,
    show k.val + 1 - 1 = k.val from rfl]
  have hrole : (Ring.roleBAt 2 (outFree c (Ring.sl 2 (k.val + 1))) (outGoing c (outFinal c fc fh fo fr) (Ring.sl 2 (k.val + 1))) (k.val + 1) : sProp 𝕄)
      = Ring.roleBAt 1 (outFree c (Ring.sl 2 (k.val + 1))) (outGoing c (outFinal c fc fh fo fr) (Ring.sl 2 (k.val + 1))) k.val := by
    by_cases h : 1 ≤ k.val
    · rw [Ring.roleBAt_of_le 2 _ _ _ (by omega), Ring.roleBAt_of_le 1 _ _ _ h]; rfl
    · rw [Ring.roleBAt_of_lt 2 _ _ _ (by omega), Ring.roleBAt_of_lt 1 _ _ _ (by omega)]
  rw [hrole]
  iintro ⟨HC, HH, HO, HR, ⟨%W, HW⟩, ⟨HT, HA⟩, HB, HS, HN⟩
  unfold outFree outGoing
  icases HS with ⟨%f, HS, HF⟩
  dsimp only [tripB]
  sl_unfold [k0_t2_body]
  sl_exec
  sl_step
  isplitl [HC]; · iexact HC
  isplitl [HH]; · iexact HH
  isplitl [HO]; · iexact HO
  isplitl [HR]; · iexact HR
  isplitl [HW]; · iexists _; iexact HW
  isplitl [HA]; · iexact HA
  isplitl [HB]; · iexact HB
  isplitl [HN]; · iexact HN
  iexists stored c fc fh fo fr k f
  irw [outFlight_stored c XO fc fh fo fr k f]
  iexact HS

/-- A later trip: it first waits for the tile that left its slot two trips before. -/
theorem trip_rest (k : Fin k0_t2_loop.trips) (hk : 2 ≤ k.val) :
    resB c XO fc fh fo fr k ⊢ wp frame (wpE (defs₀ (F := F)) 𝒱₀ (c : Thread nD τ) none) Set.univ (tripB k)
        (fun _ => resB c XO fc fh fo fr (k.val + 1)) := by
  have c3 := cond3_pos k hk
  have hlt : k.val < 100 := trips2 ▸ k.isLt
  unfold resB
  rw [Ring.aheadSet_open k.val hlt, Ring.bigSep_put (Ring.bk_not_mem_aheadSet_succ k.val hlt), Ring.behindSet_close 2 k.val hk hlt,
    Ring.bigSep_put (Ring.bk_not_mem_behindSet 2 k.val hk hlt)]
  unfold outRole
  rw [Ring.roleBAt_of_le 2 _ _ k.val hk, Ring.roleBAt_of_le 2 _ _ (k.val + 1) (by omega), Ring.roleBAt_of_le 1 _ _ k.val (by omega),
    Ring.roleBAt_of_le 1 _ _ (k.val + 1) (by omega), show k.val + 1 + 1 = k.val + 2 from rfl, ring_back (n := 2) k.val 2 rfl,
    show k.val + 1 - 1 = k.val from rfl, show k.val + 1 - 2 = k.val - 1 from rfl]
  iintro ⟨HC, HH, HO, HR, ⟨%W, HW⟩, ⟨HT, HA⟩, HB, HS, HN⟩
  unfold outGoing
  icases HS with ⟨%f, HS⟩
  dsimp only [tripB]
  sl_unfold [k0_t2_body]
  sl_exec
  sl_step
  isplitl [HC]; · iexact HC
  isplitl [HH]; · iexact HH
  isplitl [HO]; · iexact HO
  isplitl [HR]; · iexact HR
  isplitl [HW]; · iexists _; iexact HW
  isplitl [HA]; · iexact HA
  isplitl [HB HS_dst]
  · isplitl [HS_dst]; · iexact HS_dst
    iexact HB
  isplitl [HN]; · iexact HN
  iexists stored c fc fh fo fr k f
  irw [outFlight_stored c XO fc fh fo fr k f]
  iexact HS

set_option warn.classDefReducibility false in
/-- PASS TWO's INVARIANT. -/
@[sl_loop] def passTwo :
    LoopInvTy_k0_t2 (F := F) Unit ℕ (UU nD τ) ℕ 𝒱₀ c none Set.univ adjM (Memref.isWhole_whole _) embM (Memref.isWhole_whole _) outM (Memref.isWhole_whole _) cacheM (Memref.isWhole_whole _)
      latM (Memref.isWhole_whole _) hiM (Memref.isWhole_whole _) loM (Memref.isWhole_whole _) rowM (Memref.isWhole_whole _)
      adjRing (Memref.isWhole_whole _) embRing (Memref.isWhole_whole _) outRing (Memref.isWhole_whole _) cc0_scratch8 cc0_scratch9 cc0_scratch10 where
  inv k _ := resB c XO fc fh fo fr k
  step k _ := by
    by_cases h : 2 ≤ k.val
    · exact trip_rest c XO fc fh fo fr k h
    · exact trip_first c XO fc fh fo fr k h

end Trip
end Cert.Proof.Run
end
-- ==== Proof.Body.lean ====
/-
  THE BODY, run once: the latent block is cleared and the first tiles are sent for; pass one; the integer tables, the
  shift and the scale are made from the latent block and stored; pass two; the last two tiles are waited for. What the
  result then holds is `resultOf`.
-/
module

public import proofs.«01_k».proof.Proof.PassA
public import proofs.«01_k».proof.Proof.PassB

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body

variable (c : Dev nD) (XA : Buf (Elt F) (adjM.view.loc (c : Thread nD τ))) (XE : Buf (Elt F) (embM.view.loc (c : Thread nD τ)))
  (XO : Buf (Elt F) (outM.view.loc (c : Thread nD τ)))

abbrev wholeBody : Prog (TpuEff nD τ sig (Elt F) Λ₀ .tc) PUnit :=
  cc0__hgnn_body (F := F) adjM (Memref.isWhole_whole _) embM (Memref.isWhole_whole _) outM (Memref.isWhole_whole _) cacheM (Memref.isWhole_whole _)
    latM (Memref.isWhole_whole _) hiM (Memref.isWhole_whole _) loM (Memref.isWhole_whole _) rowM (Memref.isWhole_whole _)
    adjRing (Memref.isWhole_whole _) embRing (Memref.isWhole_whole _) outRing (Memref.isWhole_whole _) cc0_scratch8 cc0_scratch9 cc0_scratch10

/-- What the body is handed: the scratch buffers at anything, the cells at zero, the tiles of the three arrays at home, the
    matrix's first four and the embeddings' first two apart from the rest. -/
abbrev given (W : Waits sig Unit) : sProp 𝕄 :=
  iprop((∃ f, cacheHeld c f) ∗ (∃ f, latHeld c f) ∗ (∃ f, hiHeld c f) ∗ (∃ f, loHeld c f) ∗ (∃ f, rowHeld c f)
    ∗ adjFree c 0 ∗ adjFree c 1 ∗ adjFree c 2 ∗ adjFree c 3 ∗ embFree c 0 ∗ embFree c 1 ∗ outFree c 0 ∗ outFree c 1
    ∗ adjHome c XA 0 ∗ adjHome c XA 1 ∗ adjHome c XA 2 ∗ adjHome c XA 3 ∗ bigSep (Ring.homeSet 4 0) (adjHome c XA)
    ∗ embHome c XE 0 ∗ embHome c XE 1 ∗ bigSep (Ring.homeSet 2 0) (embHome c XE)
    ∗ bigSep (Ring.aheadSet 0) (outAt c XO) ∗ owes (c : Thread nD τ) 0 W)

/-! ### The buffers between the passes -/

/-- The latent block cleared. -/
abbrev latZero : Buf (Elt F) (latM.view.loc (c : Thread nD τ)) := latM.view.writes (Elt F) latM.view.junk [⟨latRect, k0_pay5⟩]
/-- What the second pass loads of it: the block after the hundred trips. -/
def latent : Vec F S16x512 .f32 := View.readAt (Elt F) latM.view latRect.toLoadRect (latAt c XA XE (latZero c) k0_t1_loop.trips)
/-- The tables of the latent block's integers, high and low. -/
abbrev codeRect : Rect S512x16 := Rect.unit (s := S512x16) ![0, 0] S512x16.size inb_S512x16_S512x16_0_0
def hiOf (v : Vec F S16x512 .f32) : Buf (Elt F) (hiM.view.loc (c : Thread nD τ)) := hiM.view.writes (Elt F) hiM.view.junk [⟨codeRect, k0_pay11 v⟩]
def loOf (v : Vec F S16x512 .f32) : Buf (Elt F) (loM.view.loc (c : Thread nD τ)) := loM.view.writes (Elt F) loM.view.junk [⟨codeRect, k0_pay13 (k0_pay12 v)⟩]
/-- The two rows every result tile shares: the shift in row 0, the scale in row 1. -/
def rowOf (fr : Buf (Elt F) (rowM.view.loc (c : Thread nD τ))) (v : Vec F S16x512 .f32) : Buf (Elt F) (rowM.view.loc (c : Thread nD τ)) :=
  rowM.view.writes (Elt F) fr [⟨Rect.unit (s := S8x128) ![1, 0] S1x16.size inb_S8x128_S1x16_1_0, k0_pay15 (k0_pay8 v)⟩,
    ⟨Rect.unit (s := S8x128) ![0, 0] S1x16.size inb_S8x128_S1x16_0_0, k0_pay14 (k0_pay7 v)⟩]
/-- The cache after pass one. -/
def cached (fc : Buf (Elt F) (cacheM.view.loc (c : Thread nD τ))) : Buf (Elt F) (cacheM.view.loc (c : Thread nD τ)) := cacheAt c XA fc k0_t1_loop.trips
/-- The result array when the kernel is done, over what the cache and the row buffer held at first. -/
def resultOf (fc : Buf (Elt F) (cacheM.view.loc (c : Thread nD τ))) (fr : Buf (Elt F) (rowM.view.loc (c : Thread nD τ))) : Buf (Elt F) (outM.view.loc (c : Thread nD τ)) :=
  outFinal c (cached c XA fc) (hiOf c (latent c XA XE)) (loOf c (latent c XA XE)) (rowOf c fr (latent c XA XE))

theorem behind_none (Y : Buf (Elt F) (outM.view.loc (c : Thread nD τ))) : (iprop(emp) : sProp 𝕄) ⊢ bigSep (Ring.behindSet 2 0) (outAt c Y) := by
  rw [Ring.behindSet_boot 2 0 (by decide), bigSep_empty]; exact .rfl

/-! ### Where the passes end -/

theorem sl4_end0 : Ring.sl 4 k0_t1_loop.trips = 0 := by rw [trips1]; exact Fin.ext (by rfl)
theorem sl4_end1 : Ring.sl 4 (k0_t1_loop.trips + 1) = 1 := by rw [trips1]; exact Fin.ext (by rfl)
theorem sl4_end2 : Ring.sl 4 (k0_t1_loop.trips + 2) = 2 := by rw [trips1]; exact Fin.ext (by rfl)
theorem sl4_end3 : Ring.sl 4 (k0_t1_loop.trips + 3) = 3 := by rw [trips1]; exact Fin.ext (by rfl)
theorem sl2_end0 : Ring.sl 2 k0_t1_loop.trips = 0 := by rw [trips1]; exact Fin.ext (by rfl)
theorem sl2_end1 : Ring.sl 2 (k0_t1_loop.trips + 1) = 1 := by rw [trips1]; exact Fin.ext (by rfl)

theorem adj_at {s s' : Fin 4} (h : s = s') (f : Buf (Elt F) ((adjSlot s).view.loc (c : Thread nD τ))) : iprop(adjCell c s ∗ adjHeld c s f) ⊢ (adjFree c s' : sProp 𝕄) := by
  subst h; iintro H; iexists f; iexact H
theorem emb_at {s s' : Fin 2} (h : s = s') (f : Buf (Elt F) ((embSlot s).view.loc (c : Thread nD τ))) : iprop(embCell c s ∗ embHeld c s f) ⊢ (embFree c s' : sProp 𝕄) := by
  subst h; iintro H; iexists f; iexact H
theorem homes_end (L : ℕ) (home : Fin 100 → sProp (MT nD τ sig Unit (Elt F) ℕ (UU nD τ) ℕ)) :
    bigSep (Ring.homeSet L k0_t1_loop.trips) home ⊢ bigSep Finset.univ home := by
  rw [Ring.homeSet_last L _ (by rw [trips1])]
/-- The last two result tiles are still leaving when the loop ends. -/
theorem going_98 (Y : Buf (Elt F) (outM.view.loc (c : Thread nD τ))) :
    outGoing c Y (Ring.sl 2 k0_t2_loop.trips) (Ring.bk 100 (k0_t2_loop.trips - 2)) ⊢ (iprop(∃ f, outFlight c 0 98 Y f) : sProp 𝕄) := by
  rw [trips2, show Ring.sl 2 100 = 0 from Fin.ext (by rfl), show Ring.bk 100 (100 - 2) = 98 from Fin.ext (by rfl)]; unfold outGoing; exact .rfl
theorem going_99 (Y : Buf (Elt F) (outM.view.loc (c : Thread nD τ))) :
    outGoing c Y (Ring.sl 2 (k0_t2_loop.trips + 1)) (Ring.bk 100 (k0_t2_loop.trips - 1)) ⊢ (iprop(∃ f, outFlight c 1 99 Y f) : sProp 𝕄) := by
  rw [trips2, show Ring.sl 2 (100 + 1) = 1 from Fin.ext (by rfl), show Ring.bk 100 (100 - 1) = 99 from Fin.ext (by rfl)]; unfold outGoing; exact .rfl
/-- With those two every tile has arrived. -/
theorem out_all (Y : Buf (Elt F) (outM.view.loc (c : Thread nD τ))) :
    iprop(outAt c Y 98 ∗ outAt c Y 99 ∗ bigSep (Ring.behindSet 2 k0_t2_loop.trips) (outAt c Y)) ⊢ (bigSep Finset.univ (outAt c Y) : sProp 𝕄) := by
  have e : (Finset.univ : Finset (Fin 100)) = insert 98 (insert 99 (Ring.behindSet 2 k0_t2_loop.trips)) := by
    rw [trips2]; ext b; simp only [Finset.mem_univ, Finset.mem_insert, Ring.mem_behindSet, true_iff, Fin.ext_iff]
    show b.val = 98 ∨ b.val = 99 ∨ b.val + 2 < 100
    have := b.isLt; omega
  have h1 : (98 : Fin 100) ∉ insert 99 (Ring.behindSet 2 k0_t2_loop.trips) := by
    rw [trips2]; simp only [Finset.mem_insert, Ring.mem_behindSet, Fin.ext_iff]; show ¬ (98 = 99 ∨ 98 + 2 < 100); omega
  have h2 : (99 : Fin 100) ∉ Ring.behindSet 2 k0_t2_loop.trips := by
    rw [trips2]; simp only [Ring.mem_behindSet]; show ¬ 99 + 2 < 100; omega
  rw [e, bigSep_insert h1, bigSep_insert h2]; exact .rfl

/-- What the body hands back: the buffers and cells it was handed, the two inputs as they were, the result at its final
    contents. -/
abbrev back : sProp 𝕄 :=
  iprop((∃ f, cacheHeld c f) ∗ (∃ f, latHeld c f) ∗ (∃ f, hiHeld c f) ∗ (∃ f, loHeld c f) ∗ (∃ f, rowHeld c f)
    ∗ adjFree c 0 ∗ adjFree c 1 ∗ adjFree c 2 ∗ adjFree c 3 ∗ embFree c 0 ∗ embFree c 1 ∗ outFree c 0 ∗ outFree c 1
    ∗ bigSep Finset.univ (adjHome c XA) ∗ bigSep Finset.univ (embHome c XE)
    ∗ (∃ fc fr, bigSep Finset.univ (outAt c (resultOf c XA XE fc fr))) ∗ ∃ W, owes (c : Thread nD τ) 0 W)

theorem sl40 : Ring.sl 4 0 = 0 := Fin.ext (by rfl)
theorem sl41 : Ring.sl 4 (0 + 1) = 1 := Fin.ext (by rfl)
theorem sl42 : Ring.sl 4 (0 + 2) = 2 := Fin.ext (by rfl)
theorem sl43 : Ring.sl 4 (0 + 3) = 3 := Fin.ext (by rfl)
theorem sl20 : Ring.sl 2 0 = 0 := Fin.ext (by rfl)
theorem sl21 : Ring.sl 2 (0 + 1) = 1 := Fin.ext (by rfl)
theorem bk0 : Ring.bk 100 0 = 0 := Fin.ext (by rfl)
theorem bk1 : Ring.bk 100 (0 + 1) = 1 := Fin.ext (by rfl)
theorem bk2 : Ring.bk 100 (0 + 2) = 2 := Fin.ext (by rfl)
theorem bk3 : Ring.bk 100 (0 + 3) = 3 := Fin.ext (by rfl)

-- the first tiles' slots and names are the invariants' at trip 0
attribute [local sl_canon] sl40 sl41 sl42 sl43 sl20 sl21 bk0 bk1 bk2 bk3 in
/-- THE BODY'S RUN, from what it is handed to what it hands back. -/
theorem bodyRun (W) (Q : PUnit → sProp 𝕄) :
    iprop(given c XA XE XO W ∗ (back c XA XE -∗ Q ⟨⟩)) ⊢ wp frame (wpE (defs₀ (F := F)) 𝒱₀ (c : Thread nD τ) none) Set.univ (wholeBody (F := F)) Q := by
  iintro ⟨⟨⟨%fc, HC⟩, ⟨%fl, HL⟩, ⟨%fh, HH⟩, ⟨%fo, HO⟩, ⟨%fr, HR⟩, ⟨%a0, A0, B0⟩, ⟨%a1, A1, B1⟩, ⟨%a2, A2, B2⟩, ⟨%a3, A3, B3⟩,
    ⟨%e0, E0, F0⟩, ⟨%e1, E1, F1⟩, O0, O1, T0, T1, T2, T3, TA, M0, M1, TM, TO, HW⟩, Hk⟩
  dsimp only [wholeBody]
  sl_unfold [cc0__hgnn_body, k0_part5, k0_part4, k0_part3]
  sl_exec
  ihave HB := (behind_none c (resultOf c XA XE fc fr)) $$ []
  · iempintro
  sl_exec
  ihave O0' := (going_98 c (resultOf c XA XE fc fr)) $$ [O0]
  · iexact O0
  ihave O1' := (going_99 c (resultOf c XA XE fc fr)) $$ [O1]
  · iexact O1
  icases O0' with ⟨%p0, O0⟩
  icases O1' with ⟨%p1, O1⟩
  sl_exec
  sl_step
  iapply Hk
  isplitl [HC]; · iexists _; iexact HC
  isplitl [HL]; · iexists _; iexact HL
  isplitl [HH]; · iexists _; iexact HH
  isplitl [HO]; · iexists _; iexact HO
  isplitl [HR]; · iexists _; iexact HR
  isplitl [A0]; · iapply (adj_at c sl4_end0 fL1); iexact A0
  isplitl [A1]; · iapply (adj_at c sl4_end1 fL2); iexact A1
  isplitl [A2]; · iapply (adj_at c sl4_end2 fL3); iexact A2
  isplitl [A3]; · iapply (adj_at c sl4_end3 fL4); iexact A3
  isplitl [E0]; · iapply (emb_at c sl2_end0 fL5); iexact E0
  isplitl [E1]; · iapply (emb_at c sl2_end1 fL6); iexact E1
  isplitl [O0 O0_src]
  · unfold outFree; iexists _; isplitl [O0]; · iexact O0
    iexact O0_src
  isplitl [O1 O1_src]
  · unfold outFree; iexists _; isplitl [O1]; · iexact O1
    iexact O1_src
  isplitl [TA]; · iapply (homes_end 4 _); iexact TA
  isplitl [TM]; · iapply (homes_end 2 _); iexact TM
  isplitl [O0_dst O1_dst HB]
  · iexists fc; iexists fr
    iapply (out_all c (resultOf c XA XE fc fr))
    isplitl [O0_dst]; · iexact O0_dst
    isplitl [O1_dst]; · iexact O1_dst
    iexact HB
  iexists _; iexact HW
end Body
end Cert.Proof.Run
end
-- ==== Proof.Launch.lean ====
/-
  THE LAUNCH: the three arrays are split into their tiles and the three rings into their slots, the body is run, and the
  pieces are joined again. `run_main` is the kernel's run, for any float values: the two inputs end as they were, the
  result ends as `resultOf` says, every semaphore counter ends at zero.
-/
module

public import proofs.«01_k».proof.Defs
public import proofs.«01_k».proof.Proof.Body

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
abbrev EP : Emb (UR sig nD τ) (MT nD τ sig Unit (Elt F) ℕ (UU nD τ) ℕ) := embL

variable (m : (ℓ : Loc nD τ sig) → Buf (Elt F) ℓ) (ρ : Dev nD → PrngReg)

/-! ## The kernel's own semaphores: the slots' cells of the three rings -/

abbrev osem : Fin 8 → SemLoc sig :=
  ![.dma (adjSem 0).sem, .dma (adjSem 1).sem, .dma (adjSem 2).sem, .dma (adjSem 3).sem,
    .dma (embSem 0).sem, .dma (embSem 1).sem, .dma (outSem 0).sem, .dma (outSem 1).sem]
theorem ownSemFacts : Pipeline.OwnSemFacts cfg0.spec osem := by decide

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

omit [FloatOps F] in
theorem ownSems0_eq (c : Dev nD) : (Pipeline.ownSems0 (Ix := Unit) (Name := ℕ) (U := UU nD τ) (Lvl := ℕ) (Val := Elt F) (τ := τ) osem c : sProp 𝕄)
    = iprop(adjCell c 0 ∗ adjCell c 1 ∗ adjCell c 2 ∗ adjCell c 3 ∗ embCell c 0 ∗ embCell c 1 ∗ outCell c 0 ∗ outCell c 1) := by
  unfold Pipeline.ownSems0; rw [bigSep_eight]; rfl

/-! ## The elements of a tile and of a slot -/

abbrev adjTiles (b : Fin 100) : Finset S100000x512.Idx := (Rect.unit (s := S100000x512) (tileAt b) S1000x512.size (tileAt_adj b)).set
abbrev embTiles (b : Fin 100) : Finset S100000x16.Idx := (Rect.unit (s := S100000x16) (tileAt b) S1000x16.size (tileAt_emb b)).set
abbrev adjSlots (s : Fin 4) : Finset S4x1000x512.Idx := (Rect.unit (s := S4x1000x512) (slotAt s) S1x1000x512.size (slotAt_adj s)).set
abbrev twoSlots (s : Fin 2) : Finset S2x1000x16.Idx := (Rect.unit (s := S2x1000x16) (slotAt s) S1x1000x16.size (slotAt_two s)).set

theorem adjTile_set (b : Fin 100) : (adjTile b).view.set = adjTiles b := View.set_slice_whole _ _
theorem embTile_set (b : Fin 100) : (embTile b).view.set = embTiles b := View.set_slice_whole _ _
theorem outTile_set (b : Fin 100) : (outTile b).view.set = embTiles b := View.set_slice_whole _ _
theorem adjSlot_set (s : Fin 4) : (adjSlot s).view.set = adjSlots s := (View.set_reshape _ _).trans (View.set_slice_whole _ _)
theorem embSlot_set (s : Fin 2) : (embSlot s).view.set = twoSlots s := (View.set_reshape _ _).trans (View.set_slice_whole _ _)
theorem outSlot_set (s : Fin 2) : (outSlot s).view.set = twoSlots s := (View.set_reshape _ _).trans (View.set_slice_whole _ _)

theorem tileAt_rest (b : Fin 100) (a : Fin 2) (h : a ≠ 0) : tileAt b a = 0 := by
  fin_cases a
  · exact absurd rfl h
  · rfl
theorem slotAt_rest {n : ℕ} (s : Fin n) (a : Fin 3) (h : a ≠ 0) : slotAt s a = 0 := by
  fin_cases a
  · exact absurd rfl h
  · rfl
  · rfl
theorem slotAt_lead {n : ℕ} (s : Fin n) : slotAt s 0 = 1 * s.val := (Nat.one_mul _).symm

theorem adjTiles_disjoint : ∀ b b' : Fin 100, b ≠ b' → Disjoint (adjTiles b) (adjTiles b') :=
  Ring.lead_disjoint (s := S100000x512) 0 1000 tileAt S1000x512.size tileAt_adj (fun _ => rfl) rfl
theorem adjTiles_cover : (Finset.univ : Finset (Fin 100)).biUnion adjTiles = Finset.univ :=
  Ring.lead_cover (s := S100000x512) 0 1000 tileAt S1000x512.size tileAt_adj (fun _ => rfl) tileAt_rest rfl (by decide) rfl
theorem embTiles_disjoint : ∀ b b' : Fin 100, b ≠ b' → Disjoint (embTiles b) (embTiles b') :=
  Ring.lead_disjoint (s := S100000x16) 0 1000 tileAt S1000x16.size tileAt_emb (fun _ => rfl) rfl
theorem embTiles_cover : (Finset.univ : Finset (Fin 100)).biUnion embTiles = Finset.univ :=
  Ring.lead_cover (s := S100000x16) 0 1000 tileAt S1000x16.size tileAt_emb (fun _ => rfl) tileAt_rest rfl (by decide) rfl
theorem adjSlots_disjoint : ∀ s s' : Fin 4, s ≠ s' → Disjoint (adjSlots s) (adjSlots s') :=
  Ring.lead_disjoint (s := S4x1000x512) 0 1 slotAt S1x1000x512.size slotAt_adj slotAt_lead rfl
theorem adjSlots_cover : (Finset.univ : Finset (Fin 4)).biUnion adjSlots = Finset.univ :=
  Ring.lead_cover (s := S4x1000x512) 0 1 slotAt S1x1000x512.size slotAt_adj slotAt_lead slotAt_rest rfl (by decide) rfl
theorem twoSlots_disjoint : ∀ s s' : Fin 2, s ≠ s' → Disjoint (twoSlots s) (twoSlots s') :=
  Ring.lead_disjoint (s := S2x1000x16) 0 1 slotAt S1x1000x16.size slotAt_two slotAt_lead rfl
theorem twoSlots_cover : (Finset.univ : Finset (Fin 2)).biUnion twoSlots = Finset.univ :=
  Ring.lead_cover (s := S2x1000x16) 0 1 slotAt S1x1000x16.size slotAt_two slotAt_lead slotAt_rest rfl (by decide) rfl

section Split
variable (c : Dev nD)

/-! ## The arrays as their tiles -/

omit [FloatOps F] in
theorem adj_eq (X : Buf (Elt F) ((c : Thread nD τ).loc main_arg0)) :
    (((c : Thread nD τ).loc main_arg0) ↦{fullShare} X : sProp 𝕄) = bigSep Finset.univ (adjHome c X) := by
  rw [Ring.pointsTo_blocks (ℓ := (c : Thread nD τ).loc main_arg0) adjTiles adjTiles_disjoint adjTiles_cover]
  exact bigSep_congr fun b _ => by rw [← adjTile_set]; rfl
omit [FloatOps F] in
theorem emb_eq (X : Buf (Elt F) ((c : Thread nD τ).loc main_arg1)) :
    (((c : Thread nD τ).loc main_arg1) ↦{fullShare} X : sProp 𝕄) = bigSep Finset.univ (embHome c X) := by
  rw [Ring.pointsTo_blocks (ℓ := (c : Thread nD τ).loc main_arg1) embTiles embTiles_disjoint embTiles_cover]
  exact bigSep_congr fun b _ => by rw [← embTile_set]; rfl
omit [FloatOps F] in
theorem out_eq (X : Buf (Elt F) ((c : Thread nD τ).loc main_v0)) :
    (((c : Thread nD τ).loc main_v0) ↦{fullShare} X : sProp 𝕄) = bigSep Finset.univ (outAt c X) := by
  rw [Ring.pointsTo_blocks (ℓ := (c : Thread nD τ).loc main_v0) embTiles embTiles_disjoint embTiles_cover]
  exact bigSep_congr fun b _ => by rw [← outTile_set]; rfl

omit [FloatOps F] in
/-- The tiles the kernel sends for at once, apart from the rest. -/
theorem four_apart (home : Fin 100 → sProp 𝕄) :
    bigSep Finset.univ home = iprop(home 0 ∗ home 1 ∗ home 2 ∗ home 3 ∗ bigSep (Ring.homeSet 4 0) home) := by
  have e : (Finset.univ : Finset (Fin 100)) = insert 0 (insert 1 (insert 2 (insert 3 (Ring.homeSet (NB := 100) 4 0)))) := by
    ext b; simp only [Finset.mem_univ, Finset.mem_insert, Ring.mem_homeSet, true_iff, Fin.ext_iff]
    show b.val = 0 ∨ b.val = 1 ∨ b.val = 2 ∨ b.val = 3 ∨ _
    have := b.isLt; omega
  rw [e, bigSep_insert (by simp [Ring.mem_homeSet, Fin.ext_iff]), bigSep_insert (by simp [Ring.mem_homeSet, Fin.ext_iff]),
    bigSep_insert (by simp [Ring.mem_homeSet, Fin.ext_iff]), bigSep_insert (by simp [Ring.mem_homeSet])]; rfl
omit [FloatOps F] in
theorem two_apart (home : Fin 100 → sProp 𝕄) :
    bigSep Finset.univ home = iprop(home 0 ∗ home 1 ∗ bigSep (Ring.homeSet 2 0) home) := by
  have e : (Finset.univ : Finset (Fin 100)) = insert 0 (insert 1 (Ring.homeSet (NB := 100) 2 0)) := by
    ext b; simp only [Finset.mem_univ, Finset.mem_insert, Ring.mem_homeSet, true_iff, Fin.ext_iff]
    show b.val = 0 ∨ b.val = 1 ∨ _
    have := b.isLt; omega
  rw [e, bigSep_insert (by simp [Ring.mem_homeSet, Fin.ext_iff]), bigSep_insert (by simp [Ring.mem_homeSet])]; rfl
omit [FloatOps F] in
theorem all_ahead (home : Fin 100 → sProp 𝕄) : bigSep Finset.univ home = bigSep (Ring.aheadSet 0) home := by
  congr 1

/-! ## The rings as their slots -/

omit [FloatOps F] in
theorem adjHeld_eq (s : Fin 4) (f) : adjHeld c s f = (((c : Thread nD τ).loc cc0_scratch5) ↦[adjSlots s]{fullShare} f : sProp 𝕄) :=
  congrArg (fun S => (_ ↦[S]{fullShare} f : sProp 𝕄)) (adjSlot_set s)
omit [FloatOps F] in
theorem embHeld_eq (s : Fin 2) (f) : embHeld c s f = (((c : Thread nD τ).loc cc0_scratch6) ↦[twoSlots s]{fullShare} f : sProp 𝕄) :=
  congrArg (fun S => (_ ↦[S]{fullShare} f : sProp 𝕄)) (embSlot_set s)
omit [FloatOps F] in
theorem outHeld_eq (s : Fin 2) (f) : outHeld c s f = (((c : Thread nD τ).loc cc0_scratch7) ↦[twoSlots s]{fullShare} f : sProp 𝕄) :=
  congrArg (fun S => (_ ↦[S]{fullShare} f : sProp 𝕄)) (outSlot_set s)

theorem adjRing_split : iprop(∃ f : Buf (Elt F) ((c : Thread nD τ).loc cc0_scratch5), ((c : Thread nD τ).loc cc0_scratch5) ↦{fullShare} f)
    ⊢ (iprop((∃ f, adjHeld c 0 f) ∗ (∃ f, adjHeld c 1 f) ∗ (∃ f, adjHeld c 2 f) ∗ ∃ f, adjHeld c 3 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch5) adjSlots adjSlots_disjoint adjSlots_cover f).trans (bigSep_four _))) $$ H
  icases H2 with ⟨H0, H1, H2, H3⟩
  isplitl [H0]; · iexists f; iapply (ent_of_eq (adjHeld_eq c 0 f).symm); iexact H0
  isplitl [H1]; · iexists f; iapply (ent_of_eq (adjHeld_eq c 1 f).symm); iexact H1
  isplitl [H2]; · iexists f; iapply (ent_of_eq (adjHeld_eq c 2 f).symm); iexact H2
  iexists f; iapply (ent_of_eq (adjHeld_eq c 3 f).symm); iexact H3
theorem adjRing_join : iprop((∃ f, adjHeld c 0 f) ∗ (∃ f, adjHeld c 1 f) ∗ (∃ f, adjHeld c 2 f) ∗ ∃ f, adjHeld c 3 f)
    ⊢ (iprop(∃ f : Buf (Elt F) ((c : Thread nD τ).loc cc0_scratch5), ((c : Thread nD τ).loc cc0_scratch5) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch5) adjSlots adjSlots_disjoint adjSlots_cover f0)
  irw [bigSep_four]
  isplitl [H0]; · iexists f0; iapply (ent_of_eq (adjHeld_eq c 0 f0)); iexact H0
  isplitl [H1]; · iexists f1; iapply (ent_of_eq (adjHeld_eq c 1 f1)); iexact H1
  isplitl [H2]; · iexists f2; iapply (ent_of_eq (adjHeld_eq c 2 f2)); iexact H2
  iexists f3; iapply (ent_of_eq (adjHeld_eq c 3 f3)); iexact H3
theorem embRing_split : iprop(∃ f : Buf (Elt F) ((c : Thread nD τ).loc cc0_scratch6), ((c : Thread nD τ).loc cc0_scratch6) ↦{fullShare} f)
    ⊢ (iprop((∃ f, embHeld c 0 f) ∗ ∃ f, embHeld c 1 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch6) twoSlots twoSlots_disjoint twoSlots_cover f).trans (bigSep_two _))) $$ H
  icases H2 with ⟨H0, H1⟩
  isplitl [H0]; · iexists f; iapply (ent_of_eq (embHeld_eq c 0 f).symm); iexact H0
  iexists f; iapply (ent_of_eq (embHeld_eq c 1 f).symm); iexact H1
theorem embRing_join : iprop((∃ f, embHeld c 0 f) ∗ ∃ f, embHeld c 1 f)
    ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩⟩
  iapply (Ring.pointsTo_blocks_join_exists (ℓ := (c : Thread nD τ).loc cc0_scratch6) twoSlots twoSlots_disjoint twoSlots_cover f0)
  irw [bigSep_two]
  isplitl [H0]; · iexists f0; iapply (ent_of_eq (embHeld_eq c 0 f0)); iexact H0
  iexists f1; iapply (ent_of_eq (embHeld_eq c 1 f1)); iexact H1
theorem outRing_split : iprop(∃ f : Buf (Elt F) ((c : Thread nD τ).loc cc0_scratch7), ((c : Thread nD τ).loc cc0_scratch7) ↦{fullShare} f)
    ⊢ (iprop((∃ f, outHeld c 0 f) ∗ ∃ f, outHeld c 1 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch7) twoSlots twoSlots_disjoint twoSlots_cover f).trans (bigSep_two _))) $$ H
  icases H2 with ⟨H0, H1⟩
  isplitl [H0]; · iexists f; iapply (ent_of_eq (outHeld_eq c 0 f).symm); iexact H0
  iexists f; iapply (ent_of_eq (outHeld_eq c 1 f).symm); iexact H1
theorem outRing_join : iprop((∃ f, outHeld c 0 f) ∗ ∃ f, outHeld c 1 f)
    ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩⟩
  iapply (Ring.pointsTo_blocks_join_exists (ℓ := (c : Thread nD τ).loc cc0_scratch7) twoSlots twoSlots_disjoint twoSlots_cover f0)
  irw [bigSep_two]
  isplitl [H0]; · iexists f0; iapply (ent_of_eq (outHeld_eq c 0 f0)); iexact H0
  iexists f1; iapply (ent_of_eq (outHeld_eq c 1 f1)); iexact H1

/-! ## The buffers held whole -/

omit [FloatOps F] in
theorem cacheHeld_eq (f) : cacheHeld c f = (((c : Thread nD τ).loc cc0_scratch0) ↦{fullShare} f : sProp 𝕄) :=
  congrArg (fun S => (_ ↦[S]{fullShare} f : sProp 𝕄)) (View.set_whole _)
omit [FloatOps F] in
theorem latHeld_eq (f) : latHeld c f = (((c : Thread nD τ).loc cc0_scratch1) ↦{fullShare} f : sProp 𝕄) :=
  congrArg (fun S => (_ ↦[S]{fullShare} f : sProp 𝕄)) (View.set_whole _)
omit [FloatOps F] in
theorem hiHeld_eq (f) : hiHeld c f = (((c : Thread nD τ).loc cc0_scratch2) ↦{fullShare} f : sProp 𝕄) :=
  congrArg (fun S => (_ ↦[S]{fullShare} f : sProp 𝕄)) (View.set_whole _)
omit [FloatOps F] in
theorem loHeld_eq (f) : loHeld c f = (((c : Thread nD τ).loc cc0_scratch3) ↦{fullShare} f : sProp 𝕄) :=
  congrArg (fun S => (_ ↦[S]{fullShare} f : sProp 𝕄)) (View.set_whole _)
omit [FloatOps F] in
theorem rowHeld_eq (f) : rowHeld c f = (((c : Thread nD τ).loc cc0_scratch4) ↦{fullShare} f : sProp 𝕄) :=
  congrArg (fun S => (_ ↦[S]{fullShare} f : sProp 𝕄)) (View.set_whole _)

/-- The scratch memory and the cells, as the body wants them. -/
abbrev loose : sProp 𝕄 :=
  iprop((∃ f, cacheHeld c f) ∗ (∃ f, latHeld c f) ∗ (∃ f, hiHeld c f) ∗ (∃ f, loHeld c f) ∗ (∃ f, rowHeld c f)
    ∗ adjFree c 0 ∗ adjFree c 1 ∗ adjFree c 2 ∗ adjFree c 3 ∗ embFree c 0 ∗ embFree c 1 ∗ outFree c 0 ∗ outFree c 1)

theorem loose_in : iprop(Pipeline.ownSems0 osem c ∗ Pipeline.scopedRest cfg0.spec c) ⊢ (loose c : sProp 𝕄) := by
  rw [scopedRest0_eq, ownSems0_eq]
  simp only [← cacheHeld_eq, ← latHeld_eq, ← hiHeld_eq, ← loHeld_eq, ← rowHeld_eq]
  iintro ⟨⟨A0, A1, A2, A3, E0, E1, O0, O1⟩, HC, HL, HH, HO, HR, HA, HE, HT⟩
  ihave HA' := (adjRing_split c) $$ HA
  ihave HE' := (embRing_split c) $$ HE
  ihave HT' := (outRing_split c) $$ HT
  icases HA' with ⟨⟨%f0, B0⟩, ⟨%f1, B1⟩, ⟨%f2, B2⟩, ⟨%f3, B3⟩⟩
  icases HE' with ⟨⟨%g0, F0⟩, ⟨%g1, F1⟩⟩
  icases HT' with ⟨⟨%h0, P0⟩, ⟨%h1, P1⟩⟩
  isplitl [HC]; · iexact HC
  isplitl [HL]; · iexact HL
  isplitl [HH]; · iexact HH
  isplitl [HO]; · iexact HO
  isplitl [HR]; · iexact HR
  isplitl [A0 B0]; · iexists f0; isplitl [A0]; (· iexact A0); iexact B0
  isplitl [A1 B1]; · iexists f1; isplitl [A1]; (· iexact A1); iexact B1
  isplitl [A2 B2]; · iexists f2; isplitl [A2]; (· iexact A2); iexact B2
  isplitl [A3 B3]; · iexists f3; isplitl [A3]; (· iexact A3); iexact B3
  isplitl [E0 F0]; · iexists g0; isplitl [E0]; (· iexact E0); iexact F0
  isplitl [E1 F1]; · iexists g1; isplitl [E1]; (· iexact E1); iexact F1
  unfold outFree
  isplitl [O0 P0]; · iexists h0; isplitl [O0]; (· iexact O0); iexact P0
  iexists h1; isplitl [O1]; (· iexact O1); iexact P1

theorem loose_out : (loose c : sProp 𝕄) ⊢ iprop(Pipeline.ownSems0 osem c ∗ Pipeline.scopedRest cfg0.spec c) := by
  rw [scopedRest0_eq, ownSems0_eq]
  simp only [← cacheHeld_eq, ← latHeld_eq, ← hiHeld_eq, ← loHeld_eq, ← rowHeld_eq]
  unfold loose outFree
  iintro ⟨HC, HL, HH, HO, HR, ⟨%f0, A0, B0⟩, ⟨%f1, A1, B1⟩, ⟨%f2, A2, B2⟩, ⟨%f3, A3, B3⟩, ⟨%g0, E0, F0⟩, ⟨%g1, E1, F1⟩, ⟨%h0, O0, P0⟩, ⟨%h1, O1, P1⟩⟩
  isplitl [A0 A1 A2 A3 E0 E1 O0 O1]
  · isplitl [A0]; · iexact A0
    isplitl [A1]; · iexact A1
    isplitl [A2]; · iexact A2
    isplitl [A3]; · iexact A3
    isplitl [E0]; · iexact E0
    isplitl [E1]; · iexact E1
    isplitl [O0]; · iexact O0
    iexact O1
  isplitl [HC]; · iexact HC
  isplitl [HL]; · iexact HL
  isplitl [HH]; · iexact HH
  isplitl [HO]; · iexact HO
  isplitl [HR]; · iexact HR
  isplitl [B0 B1 B2 B3]
  · iapply (adjRing_join c)
    isplitl [B0]; · iexists f0; iexact B0
    isplitl [B1]; · iexists f1; iexact B1
    isplitl [B2]; · iexists f2; iexact B2
    iexists f3; iexact B3
  isplitl [F0 F1]
  · iapply (embRing_join c)
    isplitl [F0]; · iexists g0; iexact F0
    iexists g1; iexact F1
  iapply (outRing_join c)
  isplitl [P0]; · iexists h0; iexact P0
  iexists h1; iexact P1

end Split

/-! ## The region's invariant -/

/-- The three arrays as launched. -/
abbrev XA (c : Dev nD) : Buf (Elt F) (adjM.view.loc (c : Thread nD τ)) := m ((c : Thread nD τ).loc main_arg0)
abbrev XE (c : Dev nD) : Buf (Elt F) (embM.view.loc (c : Thread nD τ)) := m ((c : Thread nD τ).loc main_arg1)
abbrev XO (c : Dev nD) : Buf (Elt F) (outM.view.loc (c : Thread nD τ)) := m ((c : Thread nD τ).loc main_v0)

/-- The inputs' tiles at home, in both states. -/
abbrev inputs (c : Dev nD) : sProp 𝕄 := iprop(bigSep Finset.univ (adjHome c (XA m c)) ∗ bigSep Finset.univ (embHome c (XE m c)))
/-- Before the body, -/
def start (c : Dev nD) : sProp 𝕄 := iprop(loose c ∗ inputs m c ∗ bigSep Finset.univ (outAt c (XO m c)))
/-- and after it. -/
def done (c : Dev nD) : sProp 𝕄 := iprop(loose c ∗ inputs m c ∗ ∃ fc fr, bigSep Finset.univ (outAt c (resultOf c (XA m c) (XE m c) fc fr)))

def dats (_ : Fin 1) (c : Dev nD) : Dat τ (Elt F) Unit ℕ (UU nD τ) ℕ cfg0 c where
  A w := w.elim0
  after w t := w.elim0
  Φ t := if t.val = 0 then start m c else done m c
  q _ := fullShare
  owed _ := 0

omit [FloatOps F] in
theorem no_window (Ψ : Fin 0 → sProp 𝕄) : bigSep Finset.univ Ψ = iprop(emp) := by
  rw [show (Finset.univ : Finset (Fin 0)) = ∅ from rfl, bigSep_empty]; rfl

theorem defs_tc : (defs₀ (F := F)) .tc cfg0.body = fun _ => wholeBody (F := F) := rfl
theorem prog_eq (t : Fin cfg0.N) : (defs₀ (F := F)) .tc cfg0.body (cfg0.bodyArgs t (cfg0.slots t)) = wholeBody (F := F) :=
  (congrFun defs_tc _).trans rfl

theorem Φ_first (c : Dev nD) (t : Fin cfg0.N) : (dats (F := F) m 0 c).Φ t.castSucc = start m c := by
  rw [show t = t0_0 from fin_N0 t]; rfl
theorem Φ_last (c : Dev nD) (t : Fin cfg0.N) : (dats (F := F) m 0 c).Φ t.succ = done m c := by
  rw [show t = t0_0 from fin_N0 t]; rfl

set_option backward.isDefEq.respectTransparency.types false in
/-- The pipeline's one point: the body takes the first state to the second. -/
theorem body_obligation (c : Dev nD) : BodyObligation (dats (F := F) m 0 c) (defs₀ (F := F)) 𝒱₀ () Set.univ := fun t => by
  rw [Φ_first, Φ_last]
  unfold Dat.owesAt Pipeline.owesWithin
  rw [show (dats m 0 c).owed t.castSucc = 0 from rfl, show (dats m 0 c).owed t.succ = 0 from rfl]
  unfold start done
  iintro ⟨⟨⟨HC, HL, HH, HO, HR, A0, A1, A2, A3, E0, E1, O0, O1⟩, ⟨HA, HE⟩, HT⟩, ⟨%W, -, HW⟩, -⟩
  ihave HA' := (ent_of_eq (four_apart _)) $$ HA
  icases HA' with ⟨T0, T1, T2, T3, TA⟩
  ihave HE' := (ent_of_eq (two_apart _)) $$ HE
  icases HE' with ⟨M0, M1, TM⟩
  ihave HT' := (ent_of_eq (all_ahead _)) $$ HT
  sl_rw [prog_eq t]
  iapply (bodyRun c (XA m c) (XE m c) (XO m c) W)
  isplitl [HC HL HH HO HR A0 A1 A2 A3 E0 E1 O0 O1 T0 T1 T2 T3 TA M0 M1 TM HT' HW]
  · isplitl [HC]; · iexact HC
    isplitl [HL]; · iexact HL
    isplitl [HH]; · iexact HH
    isplitl [HO]; · iexact HO
    isplitl [HR]; · iexact HR
    isplitl [A0]; · iexact A0
    isplitl [A1]; · iexact A1
    isplitl [A2]; · iexact A2
    isplitl [A3]; · iexact A3
    isplitl [E0]; · iexact E0
    isplitl [E1]; · iexact E1
    isplitl [O0]; · iexact O0
    isplitl [O1]; · iexact O1
    isplitl [T0]; · iexact T0
    isplitl [T1]; · iexact T1
    isplitl [T2]; · iexact T2
    isplitl [T3]; · iexact T3
    isplitl [TA]; · iexact TA
    isplitl [M0]; · iexact M0
    isplitl [M1]; · iexact M1
    isplitl [TM]; · iexact TM
    isplitl [HT']; · iexact HT'
    iexact HW
  · iintro ⟨HC, HL, HH, HO, HR, A0, A1, A2, A3, E0, E1, O0, O1, HA, HE, HT, ⟨%W', HW⟩⟩
    isplitl [HC HL HH HO HR A0 A1 A2 A3 E0 E1 O0 O1 HA HE HT]
    · isplitl [HC HL HH HO HR A0 A1 A2 A3 E0 E1 O0 O1]
      · isplitl [HC]; · iexact HC
        isplitl [HL]; · iexact HL
        isplitl [HH]; · iexact HH
        isplitl [HO]; · iexact HO
        isplitl [HR]; · iexact HR
        isplitl [A0]; · iexact A0
        isplitl [A1]; · iexact A1
        isplitl [A2]; · iexact A2
        isplitl [A3]; · iexact A3
        isplitl [E0]; · iexact E0
        isplitl [E1]; · iexact E1
        isplitl [O0]; · iexact O0
        iexact O1
      isplitl [HA HE]
      · isplitl [HA]; · iexact HA
        iexact HE
      iexact HT
    isplitl [HW]
    · iexists W'; isplitr; · ipureintro; exact fun _ _ => Or.inl trivial
      iexact HW
    iapply (ent_of_eq (no_window _).symm)
    iempintro

/-! ## The run -/

def intoΦ (c : Dev nD) : sProp 𝕄 :=
  iprop((bigSep Finset.univ (adjHome c (XA m c)) ∗ bigSep Finset.univ (embHome c (XE m c)) ∗ bigSep Finset.univ (outAt c (XO m c))) ∗ Pipeline.ownSems0 osem c)
def outOfΦ (c : Dev nD) : sProp 𝕄 :=
  iprop((((c : Thread nD τ).loc main_arg0) ↦{fullShare} XA m c) ∗ (((c : Thread nD τ).loc main_arg1) ↦{fullShare} XE m c)
    ∗ ∃ fc fr, ((c : Thread nD τ).loc main_v0) ↦{fullShare} resultOf c (XA m c) (XE m c) fc fr)
def u₀ : UU nD τ := (initOf (Pipeline.cells cfgs cellOf_inj) (Pipeline.launchToks cfgs cellOf_inj), 1)
/-- What the run ends with on core `c`: the inputs as launched, the result as computed. -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ ∃ fc fr, s.mem ((c : Thread nD τ).loc main_v0) = resultOf c (XA m c) (XE m c) fc fr

set_option backward.isDefEq.respectTransparency.types false in
/-- THE RUN, for any float values and from any memory whose counters are zero: every weakly fair execution of @main
    terminates; at its end `QY` holds on every core and every counter is zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq, adj_eq c (m _), emb_eq c (m _), out_eq c (m _)]
      unfold intoΦ
      iintro ⟨H0, HS, -, -, -⟩; imodintro
      isplitl [H0 HS]
      · isplitl [H0]; · iexact H0
        iexact HS
      iempintro)
    (hin := fun c => by
      rw [show (dats m 0 c).Φ 0 = start m c from rfl]
      unfold intoΦ start
      iintro ⟨⟨⟨HA, HE, HO⟩, HS⟩, HB⟩
      isplitl [HS HB]
      · iapply (loose_in c)
        isplitl [HS]; · iexact HS
        iexact HB
      isplitl [HA HE]
      · isplitl [HA]; · iexact HA
        iexact HE
      iexact HO)
    (hout := fun c => by
      rw [show (dats m 0 c).Φ (Fin.last cfg0.N) = done m c from rfl]
      unfold done outOfΦ; rw [adj_eq c (XA m c), emb_eq c (XE m c)]
      iintro ⟨HL, ⟨HA, HE⟩, ⟨%fc, %fr, HO⟩⟩
      ihave HL' := (loose_out c) $$ HL
      icases HL' with ⟨HS, HB⟩
      isplitl [HA HE HO]
      · isplitl [HA]; · iexact HA
        isplitl [HE]; · iexact HE
        iexists fc; iexists fr
        iapply (ent_of_eq (out_eq c _).symm); iexact HO
      isplitl [HS]; · iexact HS
      iexact HB)
    (QY := QY m)
    (hY := fun c s' => by
      unfold outOfΦ
      iintro ⟨⟨HA, HE, ⟨%fc, %fr, HO⟩⟩, -, HSI⟩
      icombine HSI HA gives %hA
      icombine HSI HE gives %hE
      icombine HSI HO gives %hO
      imodintro
      isplitr
      · ipureintro
        exact ⟨Buf.eq_of_forall_mem_univ hA, Buf.eq_of_forall_mem_univ hE, fc, fr, Buf.eq_of_forall_mem_univ hO⟩
      iexact HSI)
    (hQ := fun _ hh hz => ⟨fun c => (hh c).2, hz⟩)

end Cert.Proof.Run
end
-- ==== Proof.Frames.lean ====
/-
  THE FRAMES: the kernel as printed, its ideal text and the reference each run to the end, leave their arguments as they
  were and every semaphore counter at zero. The first two are the one run of `run_main`, since the two texts are the same.
-/
module

public import proofs.«01_k».proof.Proof.Launch
public import proofs.«01_k».proof.Proof.Gen.Kernel
public import proofs.«01_k».proof.Proof.Gen.ReferenceIdeal.Run

@[expose] public section

noncomputable section

namespace Cert.Proof.Run

open Idealize.ShloMosaic Idealize.ShloMosaic.TcCoe Idealize.SL.Sem

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Run
end
-- ==== Proof.Reads.lean ====
/-
  What the kernel's loads return, for any float values: the tile a trip reads from its staging slot is a row tile of the
  argument, a slot of the cache keeps the bytes its trip stored, and the two rows every result tile shares are the ones
  stored before the second pass.
-/
module

public import proofs.«01_k».proof.Proof.Frames
public import Idealize.ShloMosaic.Lib.Pipeline.Value
public import Idealize.ShloMosaic.Lib.VecWindow
public import Idealize.ShloMosaic.Lib.ValueIdx
public import Idealize.ShloMosaic.Lib.ValueIdxCoords

@[expose] public section

noncomputable section

namespace Cert.Proof.Run

open Cert.KernelIdeal Cert.KernelIdeal.Gen
open Idealize.ShloMosaic
open Idealize.ShloMosaic.TcCoe

variable {F : FTy → Type} [FloatOps F]

section Loads

variable (c : Dev nD) (XA : Buf (Elt F) (adjM.view.loc (c : Thread nD τ))) (XE : Buf (Elt F) (embM.view.loc (c : Thread nD τ)))

omit [FloatOps F] in
/-- A load of one slot of the adjacency ring, seen as a matrix, is what the slot reads. -/
theorem adjSlot_load (s : Fin 4) {off : Fin 3 → Nat} (e : off = slotAt s) (hh : ∀ a, off a + S1x1000x512.size a ≤ S4x1000x512.size a)
    (f : Buf (Elt F) (adjRing.view.loc (c : Thread nD τ))) :
    shapeCast S1000x512 (View.readAt (Elt F) adjRing.view (Rect.unit (s := S4x1000x512) off S1x1000x512.size hh).toLoadRect f) shapeCasts_S1x1000x512_S1000x512
      = (adjSlot s).view.read (Elt F) f := by
  subst e; rfl

omit [FloatOps F] in
theorem embSlot_load (s : Fin 2) {off : Fin 3 → Nat} (e : off = slotAt s) (hh : ∀ a, off a + S1x1000x16.size a ≤ S2x1000x16.size a)
    (f : Buf (Elt F) (embRing.view.loc (c : Thread nD τ))) :
    shapeCast S1000x16 (View.readAt (Elt F) embRing.view (Rect.unit (s := S2x1000x16) off S1x1000x16.size hh).toLoadRect f) shapeCasts_S1x1000x16_S1000x16
      = (embSlot s).view.read (Elt F) f := by
  subst e; rfl

/-- Row `r` of row tile `b` of an array of 100000 rows. -/
def rowIn (b : Fin 100) (r : Fin 1000) : Fin 100000 := ⟨1000 * b.val + r.val, by omega⟩

/-- The tile trip `k` reads from the adjacency ring is row tile `k` of the adjacency matrix. -/
theorem pay1_adjRead (k : Fin k0_t1_loop.trips) (x : S1000x512.Idx) :
    k0_pay1 (adjRead c XA k) x = XA (ValueIdx.ix2 (rowIn (Ring.bk 100 k.val) (x 0)) (x 1) : S100000x512.Idx) := by
  have h1 := adjSlot_load c (Ring.sl 4 k.val) (off7_eq k) (k0_off7_inb k)
    (adjLanded c XA (Ring.sl 4 k.val) (Ring.bk 100 k.val) (adjSlot (Ring.sl 4 k.val)).view.junk)
  have h2 := View.read_writes_whole (adjSlot (Ring.sl 4 k.val)).view (adjSlot (Ring.sl 4 k.val)).view.junk (adjData c XA (Ring.bk 100 k.val))
  have h : k0_pay1 (adjRead c XA k) = adjData c XA (Ring.bk 100 k.val) := by
    unfold k0_pay1 adjRead
    exact h1.trans h2
  rw [h]
  show XA ((adjTile (Ring.bk 100 k.val)).view.emb x) = _
  refine congrArg XA (funext fun a => Fin.ext ?_)
  fin_cases a
  · show 1000 * (Ring.bk 100 k.val).val + 1 * (x 0).val = 1000 * (Ring.bk 100 k.val).val + (x 0).val; omega
  · show 0 + 1 * (x 1).val = (x 1).val; omega

/-- The tile trip `k` reads from the embedding ring is row tile `k` of the embeddings. -/
theorem cast_embRead (k : Fin k0_t1_loop.trips) (x : S1000x16.Idx) :
    shapeCast S1000x16 (embRead c XE k) shapeCasts_S1x1000x16_S1000x16 x
      = XE (ValueIdx.ix2 (rowIn (Ring.bk 100 k.val) (x 0)) (x 1) : S100000x16.Idx) := by
  have h1 := embSlot_load c (Ring.sl 2 k.val) (off8_eq k) (k0_off8_inb k)
    (embLanded c XE (Ring.sl 2 k.val) (Ring.bk 100 k.val) (embSlot (Ring.sl 2 k.val)).view.junk)
  have h2 := View.read_writes_whole (embSlot (Ring.sl 2 k.val)).view (embSlot (Ring.sl 2 k.val)).view.junk (embData c XE (Ring.bk 100 k.val))
  have h : shapeCast S1000x16 (embRead c XE k) shapeCasts_S1x1000x16_S1000x16 = embData c XE (Ring.bk 100 k.val) := by
    unfold embRead
    exact h1.trans h2
  rw [h]
  show XE ((embTile (Ring.bk 100 k.val)).view.emb x) = _
  refine congrArg XE (funext fun a => Fin.ext ?_)
  fin_cases a
  · show 1000 * (Ring.bk 100 k.val).val + 1 * (x 0).val = 1000 * (Ring.bk 100 k.val).val + (x 0).val; omega
  · show 0 + 1 * (x 1).val = (x 1).val; omega

/-! ## The cache -/

/-- Before trip `n` of the first pass, slot `k < n` of the cache holds what trip `k` stored. -/
theorem cacheAt_read (fc : Buf (Elt F) (cacheM.view.loc (c : Thread nD τ))) (k : Fin k0_t1_loop.trips) (y : S1x1000x512.Idx) :
    ∀ n : ℕ, n ≤ k0_t1_loop.trips → k.val < n →
      cacheM.view.read (Elt F) (cacheAt c XA fc n) ((cacheRect k).emb y) = k0_pay6 (k0_pay3 (adjRead c XA k)) y
  | 0, _, h => absurd h (Nat.not_lt_zero _)
  | n + 1, hn, h => by
    have hlt : n < k0_t1_loop.trips := hn
    rw [cacheAt, dif_pos hlt, cacheNext]
    by_cases e : k.val = n
    · have e' : (⟨n, hlt⟩ : Fin k0_t1_loop.trips) = k := Fin.ext e.symm
      rw [e']
      exact View.read_writes_cons_emb _ _ _ _ _ _
    · refine (View.read_writes_cons_miss_of_axis _ _ _ _ _ 0 n 1 ?_ rfl rfl ?_).trans
        (cacheAt_read fc k y n (by omega) (by omega))
      · show k0_off9 ⟨n, hlt⟩ 0 = n
        rw [off9_eq]
        show n % 100 = n
        have := lt_of_lt_of_eq hlt trips1; omega
      · left
        show k0_off9 k 0 + 1 * (y 0).val < n
        have hy : (y 0).val < 1 := (y 0).isLt
        rw [off9_eq]
        show k.val % 100 + 1 * (y 0).val < n
        have := lt_of_lt_of_eq k.isLt trips1; omega

/-- Trip `k` of the second pass reads slot `k` of the cache, the bytes that trip `k` of the first pass stored. -/
theorem cached_load (fc : Buf (Elt F) (cacheM.view.loc (c : Thread nD τ))) (k : Fin k0_t2_loop.trips) (k' : Fin k0_t1_loop.trips) (e : k'.val = k.val) :
    shapeCast S1000x512 (View.readAt (Elt F) cacheM.view (Rect.unit (s := S100x1000x512) (k0_off19 k) S1x1000x512.size (k0_off19_inb k)).toLoadRect (cached c XA fc)) shapeCasts_S1x1000x512_S1000x512
      = k0_pay3 (adjRead c XA k') := by
  have h : View.readAt (Elt F) cacheM.view (Rect.unit (s := S100x1000x512) (k0_off19 k) S1x1000x512.size (k0_off19_inb k)).toLoadRect (cached c XA fc)
      = k0_pay6 (k0_pay3 (adjRead c XA k')) := by
    funext y
    refine Eq.trans ?_ (cacheAt_read c XA fc k' y k0_t1_loop.trips le_rfl k'.isLt)
    rw [View.readAt_apply]
    refine congrArg (cacheM.view.read (Elt F) (cached c XA fc)) (funext fun a => Fin.ext ?_)
    show k0_off19 k a + 1 * (y a).val = k0_off9 k' a + 1 * (y a).val
    exact congrArg (· + 1 * (y a).val) (congrFun ((off19_eq k).trans ((congrArg (fun n => slotAt (Ring.bk 100 n)) e.symm).trans (off9_eq k').symm)) a)
  rw [h]
  exact shapeCast_shapeCast _ _ _

/-! ## The shared rows -/

theorem row_scale (fr : Buf (Elt F) (rowM.view.loc (c : Thread nD τ))) (v : Vec F S16x512 .f32) :
    View.readAt (Elt F) rowM.view (Rect.unit (s := S8x128) ![1, 0] S1x16.size inb_S8x128_S1x16_1_0).toLoadRect (rowOf c fr v) = k0_pay15 (k0_pay8 v) := by
  funext y
  exact View.read_writes_cons_emb _ _ _ _ _ _

theorem row_shift (fr : Buf (Elt F) (rowM.view.loc (c : Thread nD τ))) (v : Vec F S16x512 .f32) :
    View.readAt (Elt F) rowM.view (Rect.unit (s := S8x128) ![0, 0] S1x16.size inb_S8x128_S1x16_0_0).toLoadRect (rowOf c fr v) = k0_pay14 (k0_pay7 v) := by
  funext y
  refine (View.read_writes_cons_miss_of_axis _ _ _ _ _ 0 1 1 rfl rfl rfl ?_).trans (View.read_writes_cons_emb _ _ _ _ _ y)
  left
  show 0 + 1 * (y 0).val < 1
  have hy : (y 0).val < 1 := (y 0).isLt
  omega

end Loads

end Cert.Proof.Run
end
-- ==== Proof.Latent.lean ====
/-
  The latent block, at the extended reals: a hundred trips that each add one row tile's products make the whole product of
  the transposed adjacency matrix with the embeddings, one sum over the 100000 rows.
-/
module

public import proofs.«01_k».proof.Proof.Reads
public import Idealize.ShloMosaic.PureOps.Ideal.Laws

@[expose] public section

noncomputable section

namespace Cert.Proof.Run

open Cert.KernelIdeal Cert.KernelIdeal.Gen
open Idealize.ShloMosaic
open Idealize.ShloMosaic.TcCoe
open Idealize.ShloMosaic.ValueIdx

/-- Entry `(h, j)` of the product of the transposed adjacency matrix with the embeddings: a sum over all rows. -/
def latSum (A : S100000x512.Idx → EReal) (E : S100000x16.Idx → EReal) (h : Fin 512) (j : Fin 16) : EReal :=
  ∑ r : Fin 100000, A (ix2 r h) * E (ix2 r j)

/-- The part of it that row tile `b` gives. -/
def latPart (A : S100000x512.Idx → EReal) (E : S100000x16.Idx → EReal) (h : Fin 512) (j : Fin 16) (b : Fin 100) : EReal :=
  ∑ r : Fin 1000, A (ix2 (rowIn b r) h) * E (ix2 (rowIn b r) j)

/-- The hundred parts make the whole. -/
theorem sum_latPart (A : S100000x512.Idx → EReal) (E : S100000x16.Idx → EReal) (h : Fin 512) (j : Fin 16) :
    ∑ b ∈ Finset.range 100, latPart A E h j (Ring.bk 100 b) = latSum A E h j := by
  rw [Finset.sum_range]
  have e : ∀ b : Fin 100, Ring.bk 100 b.val = b := fun b => Fin.ext (Ring.bk_val b.isLt)
  simp only [e]
  unfold latPart latSum
  rw [← Fintype.sum_prod_type']
  rw [← Equiv.sum_comp (finProdFinEquiv (m := 100) (n := 1000))]
  refine Finset.sum_congr rfl fun p _ => ?_
  have hp : rowIn p.1 p.2 = finProdFinEquiv (m := 100) (n := 1000) p := Fin.ext (by
    show 1000 * p.1.val + p.2.val = p.2.val + 1000 * p.1.val
    omega)
  rw [hp]

section Sums

variable (c : Dev nD) (XA : Buf (Elt Ideal) (adjM.view.loc (c : Thread nD τ))) (XE : Buf (Elt Ideal) (embM.view.loc (c : Thread nD τ)))

/-- What one trip stores: the block before it, plus the trip's row tile's products. -/
theorem pay2_apply (k : Fin k0_t1_loop.trips) (v : Vec Ideal S16x512 .f32) (j : Fin 16) (h : Fin 512) :
    k0_pay2 (adjRead c XA k) (embRead c XE k) v (ix2 j h : S16x512.Idx)
      = v (ix2 j h : S16x512.Idx) + latPart XA XE h j (Ring.bk 100 k.val) := by
  unfold k0_pay2
  simp only [shapeCast_self]
  refine (addf_apply _ _ _).trans (congrArg (v (ix2 j h : S16x512.Idx) + ·) ?_)
  refine (Ideal.matmul_constant_zero_apply _ _ _ _ _).trans ?_
  rw [← Equiv.sum_comp (contrEquiv1 dot_S1000x16_S1000x512_S16x512_0_0_1_1_n_n 1000 rfl rfl).symm]
  unfold latPart
  refine Finset.sum_congr rfl fun r _ => ?_
  have hk := contrEquiv1_symm_val dot_S1000x16_S1000x512_S16x512_0_0_1_1_n_n 1000 rfl rfl r
  have el : dot_S1000x16_S1000x512_S16x512_0_0_1_1_n_n.lhsIdx (ix2 j h : S16x512.Idx)
      ((contrEquiv1 dot_S1000x16_S1000x512_S16x512_0_0_1_1_n_n 1000 rfl rfl).symm r) = (ix2 r j : S1000x16.Idx) := by
    funext a; apply Fin.ext
    match a with
    | ⟨0, _⟩ => exact hk
    | ⟨1, _⟩ => rfl
  have er : dot_S1000x16_S1000x512_S16x512_0_0_1_1_n_n.rhsIdx (ix2 j h : S16x512.Idx)
      ((contrEquiv1 dot_S1000x16_S1000x512_S16x512_0_0_1_1_n_n 1000 rfl rfl).symm r) = (ix2 r h : S1000x512.Idx) := by
    funext a; apply Fin.ext
    match a with
    | ⟨0, _⟩ => exact hk
    | ⟨1, _⟩ => rfl
  rw [el, er, cast_embRead c XE k, pay1_adjRead c XA k, mul_comm]

/-- The block before trip `n`: the parts of the row tiles below `n`. -/
theorem latAt_read (j : Fin 16) (h : Fin 512) : ∀ n : ℕ, n ≤ k0_t1_loop.trips →
    latM.view.read (Elt Ideal) (latAt c XA XE (latZero c) n) (ix2 j h : S16x512.Idx) = ∑ b ∈ Finset.range n, latPart XA XE h j (Ring.bk 100 b)
  | 0, _ => by
    rw [Finset.sum_range_zero]
    refine (congrFun (View.read_writes_full (Val := Elt Ideal) latM.view latM.view.junk inb_S16x512_S16x512_0_0 (k0_pay5 (F := Ideal)) []) (ix2 j h : S16x512.Idx)).trans ?_
    unfold k0_pay5
    simp only [shapeCast_self]
    exact Ideal.ofBits_zero_f32
  | n + 1, hn => by
    have hlt : n < k0_t1_loop.trips := hn
    rw [Finset.sum_range_succ, ← latAt_read j h n (by omega), latAt, dif_pos hlt, latNext]
    refine (congrFun (View.read_writes_full latM.view _ inb_S16x512_S16x512_0_0 _ []) (ix2 j h : S16x512.Idx)).trans ?_
    refine (pay2_apply c XA XE ⟨n, hlt⟩ _ j h).trans ?_
    exact congrArg (· + _) (congrFun (View.readAt_full latM.view (latAt c XA XE (latZero c) n) inb_S16x512_S16x512_0_0) (ix2 j h : S16x512.Idx))

/-- The latent block that the second pass starts from. -/
theorem latent_apply (j : Fin 16) (h : Fin 512) : latent c XA XE (ix2 j h : S16x512.Idx) = latSum XA XE h j := by
  unfold latent
  refine (congrFun (View.readAt_full latM.view (latAt c XA XE (latZero c) k0_t1_loop.trips) inb_S16x512_S16x512_0_0) (ix2 j h : S16x512.Idx)).trans ?_
  rw [latAt_read c XA XE j h _ le_rfl, trips1, sum_latPart]

/-- Transposed, as the codes are computed from it. -/
theorem pay7_apply (h : Fin 512) (j : Fin 16) : k0_pay7 (latent c XA XE) (ix2 h j : S512x16.Idx) = latSum XA XE h j := by
  unfold k0_pay7
  refine (transpose_apply _ _ _ _ (ix2 j h : S16x512.Idx) ?_).trans (latent_apply c XA XE j h)
  intro b
  match b with
  | ⟨0, _⟩ => rfl
  | ⟨1, _⟩ => rfl

end Sums

end Cert.Proof.Run
end
-- ==== Proof.Quant.lean ====
/-
  The numbers, apart from any program: rounding to the nearest whole number (ties to even) as a value that is a whole
  number or an infinity; a signed byte's conversion as the clip to [−128, 127]; the codes of a scaled entry, which are whole
  numbers of magnitude at most 16256; and such a code cut into two signed bytes, a multiple of 128 and a rest.
-/
module

public import Idealize.ShloMosaic.PureOps.Ideal.Laws
public import Idealize.ShloMosaic.Lib.IdealHost

@[expose] public section

noncomputable section

namespace Cert.Proof.Quant

open Idealize.ShloMosaic

/-- Rounding to the nearest whole number, ties to even, over the extended reals. -/
abbrev rnd : EReal → EReal := Ideal.liftRound Ideal.roundHalfEven

/-! ## The constants -/

theorem c254 : Ideal.ofBits .f32 0x437E0000#32 = ((254 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num
theorem cm128 : Ideal.ofBits .f32 0xC3000000#32 = ((-128 : ℝ) : EReal) := by
  simp [Ideal.ofBits, Ideal.ieee, -EReal.coe_mul, -EReal.coe_neg]; norm_num
theorem c128 : Ideal.ofBits .f32 0x43000000#32 = ((128 : ℝ) : EReal) := by
  simp [Ideal.ofBits, Ideal.ieee, -EReal.coe_mul]; norm_num
theorem cinv128 : Ideal.ofBits .f32 0x3C000000#32 = ((1 / 128 : ℝ) : EReal) := by
  simp [Ideal.ofBits, Ideal.ieee, -EReal.coe_mul]; norm_num
theorem c16256 : Ideal.ofBits .f32 0x467E0000#32 = ((16256 : ℝ) : EReal) := by
  simp [Ideal.ofBits, Ideal.ieee, -EReal.coe_mul]; norm_num
theorem ctiny : 0 < Ideal.ofBits .f32 0x0DA24260#32 := by
  simp [Ideal.ofBits, Ideal.ieee, -EReal.coe_mul]
theorem cbot : Ideal.ofBits .f32 0xFF800000#32 = ⊥ := by
  simp [Ideal.ofBits, Ideal.ieee]

/-! ## Rounding -/

/-- Rounding to nearest moves a value by at most one half. -/
theorem round_near (r : ℝ) : |r - (Ideal.roundHalfEven r : ℝ)| ≤ 1 / 2 := by
  have h1 := Int.floor_le r
  have h2 := Int.lt_floor_add_one r
  unfold Ideal.roundHalfEven
  simp only
  rw [abs_le]
  split_ifs <;> push_cast <;> constructor <;> linarith

/-- So a value within a whole bound is rounded within it. -/
theorem round_within (r : ℝ) (N : ℤ) (h : |r| ≤ N) : |Ideal.roundHalfEven r| ≤ N := by
  have h1 := round_near r
  rw [abs_le] at h h1
  have a : (Ideal.roundHalfEven r : ℝ) < ((N + 1 : ℤ) : ℝ) := by push_cast; linarith [h1.1, h.2]
  have b : ((-N - 1 : ℤ) : ℝ) < (Ideal.roundHalfEven r : ℝ) := by push_cast; linarith [h1.2, h.1]
  have a' := Int.cast_lt.mp a
  have b' := Int.cast_lt.mp b
  rw [abs_le]; omega

/-! ## A signed byte -/

/-- A whole number converted to a signed byte is clipped to [−128, 127]. -/
theorem byte_int (n : ℤ) : (Ideal.fptosi 8 (((n : ℝ)) : EReal)).toInt = max (-128) (min 127 n) := by
  have e : (if (0 : ℝ) ≤ (n : ℝ) then ⌊(n : ℝ)⌋ else ⌈(n : ℝ)⌉) = n := by split_ifs <;> simp
  rw [Ideal.fptosi, Ideal.toIntClamped_coe, e, BitVec.toInt_ofInt]
  norm_num
  apply Int.bmod_eq_of_le <;> omega

/-- A rounded value's signed byte is the rounded value clipped to [−128, 127]. -/
theorem byte_rnd (x : EReal) : ((((Ideal.fptosi 8 (rnd x)).toInt : ℝ)) : EReal)
    = min ((127 : ℝ) : EReal) (max ((-128 : ℝ) : EReal) (rnd x)) := by
  induction x with
  | bot =>
    have : (Ideal.fptosi 8 (rnd ⊥)).toInt = -128 := by
      show (BitVec.ofInt 8 (-(2 ^ (8 - 1) : Nat))).toInt = -128
      decide
    rw [this]
    show _ = min _ (max _ (⊥ : EReal))
    rw [max_eq_left bot_le, min_eq_right]
    · norm_num
    · exact EReal.coe_le_coe_iff.mpr (by norm_num)
  | top =>
    have : (Ideal.fptosi 8 (rnd ⊤)).toInt = 127 := by
      show (BitVec.ofInt 8 ((2 ^ (8 - 1) : Nat) - 1)).toInt = 127
      decide
    rw [this]
    show _ = min _ (max _ (⊤ : EReal))
    rw [max_eq_right le_top, min_eq_left le_top]
    norm_num
  | coe r =>
    show ((((Ideal.fptosi 8 (((Ideal.roundHalfEven r : ℝ)) : EReal)).toInt : ℝ)) : EReal) = min _ (max _ (((Ideal.roundHalfEven r : ℝ)) : EReal))
    rw [byte_int, ← EReal.coe_strictMono.monotone.map_max, ← EReal.coe_strictMono.monotone.map_min]
    congr 1
    push_cast
    rcases le_total (127 : ℝ) (Ideal.roundHalfEven r) with h | h
    · rw [min_eq_left h, max_eq_right (by norm_num), max_eq_right (by linarith), min_eq_left h]
    · rw [min_eq_right h, min_eq_right (max_le (by norm_num) h)]

/-! ## The codes -/

/-- With a scale of 16256 over the largest magnitude (or over a tiny positive number, if that is larger), an entry of at most
    that magnitude has for code a whole number of magnitude at most 16256. An infinite entry makes the scale zero. -/
theorem code_int (x m t : EReal) (hx : max x (-x) ≤ m) (ht : 0 < t) :
    ∃ n : ℤ, |n| ≤ 16256 ∧ rnd (x * Ideal.div ((16256 : ℝ) : EReal) (max m t)) = ((n : ℝ) : EReal) := by
  have hM : 0 < max m t := lt_max_of_lt_right ht
  have hxM : max x (-x) ≤ max m t := hx.trans (le_max_left _ _)
  generalize max m t = M at hM hxM
  rw [Ideal.div, if_neg hM.ne']
  induction M with
  | bot => exact absurd hM (by simp)
  | top =>
    refine ⟨Ideal.roundHalfEven 0, round_within 0 16256 (by norm_num), ?_⟩
    rw [EReal.inv_top, mul_zero, mul_zero, ← EReal.coe_zero]
    exact Ideal.liftRound_coe _ Ideal.roundHalfEven
  | coe M =>
    have hM' : 0 < M := by exact_mod_cast hM
    have h1 : x ≤ (M : EReal) := (le_max_left _ _).trans hxM
    have h2 : -x ≤ (M : EReal) := (le_max_right _ _).trans hxM
    induction x with
    | bot => exact absurd h2 (by simp)
    | top => exact absurd h1 (by simp)
    | coe x =>
      have h1' : x ≤ M := by exact_mod_cast h1
      have h2' : -x ≤ M := by exact_mod_cast h2
      refine ⟨Ideal.roundHalfEven (x * (16256 * M⁻¹)), round_within _ 16256 ?_, ?_⟩
      · have hp : 0 < (16256 : ℝ) * M⁻¹ := by positivity
        have he : M * (16256 * M⁻¹) = 16256 := by field_simp
        push_cast
        rw [abs_le]; constructor <;> nlinarith
      · rw [← EReal.coe_inv, ← EReal.coe_mul, ← EReal.coe_mul]
        exact Ideal.liftRound_coe _ Ideal.roundHalfEven

/-- The upper byte of a code: the code over 128, rounded. -/
def upper (n : ℤ) : ℤ := Ideal.roundHalfEven ((n : ℝ) * (1 / 128))

theorem upper_rnd (n : ℤ) : rnd (((n : ℝ) : EReal) * ((1 / 128 : ℝ) : EReal)) = ((upper n : ℝ) : EReal) := by
  rw [← EReal.coe_mul]; exact Ideal.liftRound_coe _ Ideal.roundHalfEven

theorem upper_byte (n : ℤ) (h : |n| ≤ 16256) : (Ideal.fptosi 8 (((upper n : ℝ)) : EReal)).toInt = upper n := by
  have hb : |upper n| ≤ 127 := by
    refine round_within _ 127 ?_
    have : |(n : ℝ)| ≤ 16256 := by exact_mod_cast h
    rw [abs_le] at this ⊢
    push_cast
    constructor <;> linarith [this.1, this.2]
  rw [byte_int]; rw [abs_le] at hb; omega

/-- The lower byte of a code: what 128 times the upper byte leaves of it. -/
theorem lower_byte (n : ℤ) :
    (Ideal.fptosi 8 (((n : ℝ) : EReal) - ((128 : ℝ) : EReal) * ((upper n : ℝ) : EReal))).toInt = n - 128 * upper n := by
  have e : ((n : ℝ) : EReal) - ((128 : ℝ) : EReal) * ((upper n : ℝ) : EReal) = (((n - 128 * upper n : ℤ) : ℝ) : EReal) := by
    rw [← EReal.coe_mul, ← EReal.coe_sub]; push_cast; rfl
  have hn := round_near ((n : ℝ) * (1 / 128))
  rw [abs_le] at hn
  have a : ((n - 128 * upper n : ℤ) : ℝ) < ((65 : ℤ) : ℝ) := by
    show ((n - 128 * Ideal.roundHalfEven ((n : ℝ) * (1 / 128)) : ℤ) : ℝ) < _
    push_cast; linarith [hn.2]
  have b : ((-65 : ℤ) : ℝ) < ((n - 128 * upper n : ℤ) : ℝ) := by
    show _ < ((n - 128 * Ideal.roundHalfEven ((n : ℝ) * (1 / 128)) : ℤ) : ℝ)
    push_cast; linarith [hn.1]
  have a' := Int.cast_lt.mp a
  have b' := Int.cast_lt.mp b
  rw [e, byte_int]; omega

/-! ## Sums -/

/-- A sum of reals is one real. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- 128 times the sum against the upper bytes, plus the sum against the lower bytes, is the sum against the codes. -/
theorem join_sum {ι : Type*} [Fintype ι] (q n h l : ι → ℤ) (e : ∀ k, n k = 128 * h k + l k) :
    (((∑ k, q k * h k : ℤ) : ℝ) : EReal) * ((128 : ℝ) : EReal) + (((∑ k, q k * l k : ℤ) : ℝ) : EReal)
      = ∑ k, ((q k : ℝ) : EReal) * ((n k : ℝ) : EReal) := by
  rw [← EReal.coe_mul, ← EReal.coe_add]
  simp only [← EReal.coe_mul]
  rw [← coe_sum]
  congr 1
  push_cast
  rw [Finset.sum_mul, ← Finset.sum_add_distrib]
  refine Finset.sum_congr rfl fun k _ => ?_
  rw [e k]; push_cast; ring

end Cert.Proof.Quant
end
-- ==== Proof.Tables.lean ====
/-
  What the second pass starts from, at the extended reals: the scale that the largest magnitude of the latent block gives,
  the block's codes and the two signed bytes each is cut into, the column sums, and the signed bytes of the adjacency matrix.
-/
module

public import proofs.«01_k».proof.Proof.Latent
public import proofs.«01_k».proof.Proof.Quant
public import Idealize.ShloMosaic.Lib.IntMxu

@[expose] public section

noncomputable section

namespace Cert.Proof.Run

open Cert.KernelIdeal Cert.KernelIdeal.Gen
open Idealize.ShloMosaic
open Idealize.ShloMosaic.TcCoe
open Idealize.ShloMosaic.ValueIdx
open Cert.Proof.Quant

/-! ## The plain quantities -/

/-- The largest magnitude of a block. -/
def largest (L : S512x16.Idx → EReal) : EReal := ⨆ i, max (L i) (-(L i))

/-- Codes to one unit of a block: 16256 over its largest magnitude, or over 1e-30 if that is larger. -/
def scaleOf (L : S512x16.Idx → EReal) : EReal :=
  Ideal.div (Ideal.ofBits .f32 0x467E0000#32) (max (largest L) (Ideal.ofBits .f32 0x0DA24260#32))

/-- A block's code at an index. -/
def codeOf (L : S512x16.Idx → EReal) (i : S512x16.Idx) : EReal := rnd (L i * scaleOf L)

/-- An adjacency entry in steps of 1/254, clipped to a signed byte's range. -/
def stepOf (a : EReal) : EReal :=
  min (Ideal.ofBits .f32 0x42FE0000#32) (max (Ideal.ofBits .f32 0xC3000000#32)
    (rnd (a * Ideal.ofBits .f32 0x437E0000#32 - Ideal.ofBits .f32 0x42FE0000#32)))

/-- The codes are whole numbers of magnitude at most 16256. -/
theorem codeOf_int (L : S512x16.Idx → EReal) (i : S512x16.Idx) : ∃ n : ℤ, |n| ≤ 16256 ∧ codeOf L i = ((n : ℝ) : EReal) := by
  unfold codeOf scaleOf
  rw [c16256]
  exact code_int _ _ _ (le_iSup (fun i => max (L i) (-(L i))) i) ctiny

/-- A block's code as a whole number. -/
def codeInt (L : S512x16.Idx → EReal) (i : S512x16.Idx) : ℤ := (codeOf_int L i).choose
theorem codeInt_le (L : S512x16.Idx → EReal) (i : S512x16.Idx) : |codeInt L i| ≤ 16256 := (codeOf_int L i).choose_spec.1
theorem codeOf_eq (L : S512x16.Idx → EReal) (i : S512x16.Idx) : codeOf L i = ((codeInt L i : ℝ) : EReal) := (codeOf_int L i).choose_spec.2

/-- A fold of maxima from the least value is the least upper bound. -/
theorem fold_max_eq {ι : Type*} [Fintype ι] (f : ι → EReal) :
    (Finset.univ : Finset ι).fold max (⊥ : EReal) f = ⨆ i, f i := by
  refine le_antisymm ((Finset.fold_max_le _).mpr ⟨bot_le, fun i _ => le_iSup f i⟩) (iSup_le fun i => ?_)
  exact (Finset.le_fold_max _).mpr (.inr ⟨i, Finset.mem_univ i, le_rfl⟩)

section Tables

variable (v : Vec Ideal S16x512 .f32)

omit v in
/-- A maximum over every axis but a unit one is the least upper bound of all entries. -/
theorem max_all (src : FVec Ideal S1x512x16 .f32) (z : S1.Idx) :
    multiReduction .maximumf [1, 2] S1 src 0xFF800000#32 reduces_S1x512x16_S1 (.inl rfl) rfl z = ⨆ i, src i := by
  have hall : (Finset.univ.filter fun i => reduces_S1x512x16_S1.drop i = z) = (Finset.univ : Finset S1x512x16.Idx) :=
    Finset.filter_true_of_mem fun i _ => funext fun b => Fin.ext (by
      have h1 := (reduces_S1x512x16_S1.drop i b).isLt
      have h2 := (z b).isLt
      match b with
      | ⟨0, _⟩ => exact (Nat.lt_one_iff.mp h1).trans (Nat.lt_one_iff.mp h2).symm)
  refine (multiReduction_maximumf_eq_fold (F := Ideal) src 0xFF800000#32 reduces_S1x512x16_S1 (.inl rfl) rfl z).trans ?_
  rw [hall]
  refine Eq.trans ?_ (fold_max_eq src)
  rw [← cbot]; rfl

omit v in
/-- So the kernel's maximum over the block is the largest magnitude. -/
theorem pay8_max (w : FVec Ideal S512x16 .f32) :
    extractAt ![0, 0, 0] (shapeCast S1x1x1 (multiReduction .maximumf [1, 2] S1 (shapeCast S1x512x16 (absf w) shapeCasts_S512x16_S1x512x16) 0xFF800000#32 reduces_S1x512x16_S1 (.inl rfl) rfl) shapeCasts_S1_S1x1x1) inpos_S1x1x1_p0_0_0
      = largest w := by
  have key : ∀ M : FVec Ideal S1 .f32, (∀ z, M z = largest w) →
      extractAt ![0, 0, 0] (shapeCast S1x1x1 M shapeCasts_S1_S1x1x1) inpos_S1x1x1_p0_0_0 = largest w := fun M h => h _
  refine key _ fun z => (max_all _ z).trans ?_
  unfold largest
  exact (Shape.reshapeEquiv shapeCasts_S512x16_S1x512x16).iSup_comp (g := fun i : S512x16.Idx => max (w i) (-(w i)))

/-- The kernel's scale is the plain one. -/
theorem pay8_eq : k0_pay8 v = scaleOf (k0_pay7 v) := by
  have key : ∀ x : EReal, Scalar.divf (F := Ideal) (Scalar.ofBits .f32 0x467E0000#32) (Scalar.maximumf x (Scalar.ofBits .f32 0x0DA24260#32))
      = Ideal.div (Ideal.ofBits .f32 0x467E0000#32) (max x (Ideal.ofBits .f32 0x0DA24260#32)) := fun x => rfl
  unfold scaleOf
  rw [← key, ← pay8_max]
  unfold k0_pay8
  rfl

theorem pay9_eq (i : S512x16.Idx) : k0_pay9 v i = codeOf (k0_pay7 v) i := by
  unfold k0_pay9 codeOf
  rw [← pay8_eq]; rfl

theorem pay10_eq (i : S512x16.Idx) : k0_pay10 v i = ((upper (codeInt (k0_pay7 v) i) : ℝ) : EReal) := by
  rw [← upper_rnd, ← codeOf_eq, ← pay9_eq, ← cinv128]
  unfold k0_pay10; rfl

/-- The upper table holds the codes' upper bytes, -/
theorem pay11_toInt (i : S512x16.Idx) : (k0_pay11 v i).toInt = upper (codeInt (k0_pay7 v) i) := by
  unfold k0_pay11
  simp only [shapeCast_self]
  show (Ideal.fptosi 8 (k0_pay10 v i)).toInt = _
  rw [pay10_eq, upper_byte _ (codeInt_le _ _)]

/-- the lower table the rest. -/
theorem pay13_toInt (i : S512x16.Idx) : (k0_pay13 (k0_pay12 v) i).toInt = codeInt (k0_pay7 v) i - 128 * upper (codeInt (k0_pay7 v) i) := by
  unfold k0_pay13 k0_pay12
  simp only [shapeCast_self]
  show (Ideal.fptosi 8 (k0_pay9 v i - Ideal.ofBits .f32 0x43000000#32 * k0_pay10 v i)).toInt = _
  rw [pay10_eq, pay9_eq, codeOf_eq, c128, lower_byte]

/-- The row every result tile is shifted by: half the column sums. -/
theorem pay14_apply (w : FVec Ideal S512x16 .f32) (y : S1x16.Idx) :
    k0_pay14 w y = Ideal.ofBits .f32 0x3F000000#32 * ∑ h : Fin 512, w (ix2 h (y 1) : S512x16.Idx) := by
  unfold k0_pay14
  simp only [shapeCast_self]
  refine (mulf_apply _ _ _).trans (congrArg (Ideal.ofBits .f32 0x3F000000#32 * ·) ?_)
  refine (shapeCast_addUnit_apply ![16] _ shapeCasts_S16_S1x16 y).trans ?_
  refine (Ideal.multiReduction_add_single _ _ _ _ _ _).trans ?_
  refine Finset.sum_congr rfl fun h _ => congrArg w (funext fun a => Fin.ext ?_)
  match a with
  | ⟨0, _⟩ => rfl
  | ⟨1, _⟩ => rfl

/-- The row it is scaled by: one unit of the integer product. -/
theorem pay15_apply (s : EReal) (y : S1x16.Idx) :
    k0_pay15 (F := Ideal) s y = Ideal.div (Ideal.ofBits .f32 0x3F800000#32) (Ideal.ofBits .f32 0x437E0000#32 * s) := by
  unfold k0_pay15
  simp only [shapeCast_self]
  rfl

end Tables

/-- A trip's bytes are its row tile's entries in steps of 1/254. -/
theorem pay3_toInt (w : Vec Ideal S1x1000x512 .f32) (x : S1000x512.Idx) :
    ((((k0_pay3 w x).toInt : ℝ)) : EReal) = stepOf (k0_pay1 w x) := by
  unfold stepOf
  rw [c127, cm128, ← byte_rnd, ← c127]
  rfl

end Cert.Proof.Run
end
-- ==== Proof.Result.lean ====
/-
  The kernel's result, at the extended reals: every element is the integer product of the row's steps with the latent
  block's codes, scaled back, plus half the block's column sum.
-/
module

public import proofs.«01_k».proof.Proof.Tables

@[expose] public section

noncomputable section

namespace Cert.Proof.Run

open Cert.KernelIdeal Cert.KernelIdeal.Gen
open Idealize.ShloMosaic
open Idealize.ShloMosaic.TcCoe
open Idealize.ShloMosaic.ValueIdx
open Cert.Proof.Quant

/-! ## The value in plain terms -/

/-- The latent block: the transposed adjacency matrix times the embeddings. -/
def latBlock (A : S100000x512.Idx → EReal) (E : S100000x16.Idx → EReal) : S512x16.Idx → EReal :=
  fun x => latSum A E (x 0) (x 1)

/-- An element of the quantised product: the row's steps against the block's codes, scaled back, plus half the column sum. -/
def valueAt (A : S100000x512.Idx → EReal) (L : S512x16.Idx → EReal) (r : Fin 100000) (j : Fin 16) : EReal :=
  (∑ h : Fin 512, stepOf (A (ix2 r h)) * codeOf L (ix2 h j))
      * Ideal.div (Ideal.ofBits .f32 0x3F800000#32) (Ideal.ofBits .f32 0x437E0000#32 * scaleOf L)
    + Ideal.ofBits .f32 0x3F000000#32 * ∑ h : Fin 512, L (ix2 h j)

/-! ## The integer products -/

/-- One of the kernel's two integer products, read as a number: the exact sum of the bytes' products. -/
theorem product_toInt (q : IVec S1000x512 8) (t : IVec S512x16 8) (r : Fin 1000) (j : Fin 16) :
    (matmulI8 IntMxuNumerics.v7x dot_S1000x512_S512x16_S1000x16_1_0_0_1_n_n q t (constantI S1000x16 32 0#32) (ix2 r j : S1000x16.Idx)).toInt
      = ∑ h : Fin 512, (q (ix2 r h : S1000x512.Idx)).toInt * (t (ix2 h j : S512x16.Idx)).toInt := by
  rw [matmulI8_toInt IntMxuNumerics.v7x dot_S1000x512_S512x16_S1000x16_1_0_0_1_n_n q t _ _ rfl
    ((absDotI8_le_numel _ _ _ _).trans (by decide))]
  unfold dotI8
  rw [← Equiv.sum_comp (contrEquiv1 dot_S1000x512_S512x16_S1000x16_1_0_0_1_n_n 512 rfl rfl).symm]
  refine Finset.sum_congr rfl fun h _ => ?_
  have hk := contrEquiv1_symm_val dot_S1000x512_S512x16_S1000x16_1_0_0_1_n_n 512 rfl rfl h
  have el : dot_S1000x512_S512x16_S1000x16_1_0_0_1_n_n.lhsIdx (ix2 r j : S1000x16.Idx)
      ((contrEquiv1 dot_S1000x512_S512x16_S1000x16_1_0_0_1_n_n 512 rfl rfl).symm h) = (ix2 r h : S1000x512.Idx) := by
    funext a; apply Fin.ext
    match a with
    | ⟨0, _⟩ => rfl
    | ⟨1, _⟩ => exact hk
  have er : dot_S1000x512_S512x16_S1000x16_1_0_0_1_n_n.rhsIdx (ix2 r j : S1000x16.Idx)
      ((contrEquiv1 dot_S1000x512_S512x16_S1000x16_1_0_0_1_n_n 512 rfl rfl).symm h) = (ix2 h j : S512x16.Idx) := by
    funext a; apply Fin.ext
    match a with
    | ⟨0, _⟩ => exact hk
    | ⟨1, _⟩ => rfl
  rw [el, er]

/-- A result tile, from the bytes and the two shared rows. -/
theorem pay4_apply (q : Vec Ideal S1x1000x512 .i8) (th tl : Vec Ideal S512x16 .i8) (sc sh : Vec Ideal S1x16 .f32) (r : Fin 1000) (j : Fin 16) :
    k0_pay4 q th tl sc sh (Shape.reshapeEquiv squeezes_S1x1000x16_S1000x16.numel_eq (ix2 r j : S1000x16.Idx))
      = (((((∑ h : Fin 512, (shapeCast S1000x512 q shapeCasts_S1x1000x512_S1000x512 (ix2 r h : S1000x512.Idx)).toInt * (th (ix2 h j : S512x16.Idx)).toInt : ℤ) : ℝ) : EReal))
            * ((128 : ℝ) : EReal)
          + ((((∑ h : Fin 512, (shapeCast S1000x512 q shapeCasts_S1x1000x512_S1000x512 (ix2 r h : S1000x512.Idx)).toInt * (tl (ix2 h j : S512x16.Idx)).toInt : ℤ) : ℝ) : EReal)))
        * sc (ix2 0 j : S1x16.Idx) + sh (ix2 0 j : S1x16.Idx) := by
  unfold k0_pay4
  simp only [shapeCast_self]
  have hs : ∀ w : Vec Ideal S1000x16 .f32, shapeCast S1x1000x16 w shapeCasts_S1000x16_S1x1000x16
      (Shape.reshapeEquiv squeezes_S1x1000x16_S1000x16.numel_eq (ix2 r j : S1000x16.Idx)) = w (ix2 r j : S1000x16.Idx) := fun w =>
    congrFun (shapeCast_shapeCast w shapeCasts_S1000x16_S1x1000x16 squeezes_S1x1000x16_S1000x16.numel_eq) (ix2 r j : S1000x16.Idx)
  refine (hs _).trans ?_
  rw [← product_toInt, ← product_toInt, ← c128]
  have hb : ∀ v : Vec Ideal S1x16 .f32, broadcastTo S1000x16 v broadcasts_S1x16_S1000x16 (ix2 r j : S1000x16.Idx) = v (ix2 0 j : S1x16.Idx) := fun v =>
    broadcastTo_apply v broadcasts_S1x16_S1000x16 _ _ fun a => match a with
      | ⟨0, _⟩ => rfl
      | ⟨1, _⟩ => rfl
  rw [← hb sc, ← hb sh]
  rfl

section Result

variable (c : Dev nD) (XA : Buf (Elt Ideal) (adjM.view.loc (c : Thread nD τ))) (XE : Buf (Elt Ideal) (embM.view.loc (c : Thread nD τ)))
  (fc : Buf (Elt Ideal) (cacheM.view.loc (c : Thread nD τ))) (fr : Buf (Elt Ideal) (rowM.view.loc (c : Thread nD τ)))

theorem pay7_latent : k0_pay7 (latent c XA XE) = latBlock XA XE := by
  funext x
  rw [eq_ix2 x]
  exact pay7_apply c XA XE (x 0) (x 1)

/-- What the second pass loads of the two tables. -/
theorem hi_load : View.readAt (Elt Ideal) hiM.view (Rect.unit (s := S512x16) ![0, 0] S512x16.size inb_S512x16_S512x16_0_0).toLoadRect (hiOf c (latent c XA XE))
    = k0_pay11 (latent c XA XE) :=
  View.readAt_writes_full (Val := Elt Ideal) hiM.view hiM.view.junk inb_S512x16_S512x16_0_0 inb_S512x16_S512x16_0_0 (k0_pay11 (latent c XA XE)) []
theorem lo_load : View.readAt (Elt Ideal) loM.view (Rect.unit (s := S512x16) ![0, 0] S512x16.size inb_S512x16_S512x16_0_0).toLoadRect (loOf c (latent c XA XE))
    = k0_pay13 (k0_pay12 (latent c XA XE)) :=
  View.readAt_writes_full (Val := Elt Ideal) loM.view loM.view.junk inb_S512x16_S512x16_0_0 inb_S512x16_S512x16_0_0 (k0_pay13 (k0_pay12 (latent c XA XE))) []

/-- Row `r` of the tile of trip `k`. -/
theorem outData_apply (k : Fin k0_t2_loop.trips) (r : Fin 1000) (j : Fin 16) :
    outData c (cached c XA fc) (hiOf c (latent c XA XE)) (loOf c (latent c XA XE)) (rowOf c fr (latent c XA XE)) k (ix2 r j : S1000x16.Idx)
      = valueAt XA (latBlock XA XE) (rowIn (Ring.bk 100 k.val) r) j := by
  have hk : k.val < k0_t1_loop.trips := lt_of_lt_of_eq k.isLt (trips2.trans trips1.symm)
  unfold outData outWord
  rw [hi_load, lo_load, row_scale, row_shift]
  refine (pay4_apply _ _ _ _ _ r j).trans ?_
  rw [cached_load c XA fc k ⟨k.val, hk⟩ rfl, pay15_apply, pay14_apply, pay8_eq, pay7_latent]
  unfold valueAt
  refine congrArg₂ (· + ·) (congrArg (· * _) ?_) rfl
  refine (join_sum _ (fun h => codeInt (latBlock XA XE) (ix2 h j : S512x16.Idx)) _ _ fun h => ?_).trans (Finset.sum_congr rfl fun h _ => ?_)
  · rw [pay11_toInt, pay13_toInt, pay7_latent]; ring
  · rw [pay3_toInt, pay1_adjRead, codeOf_eq]

/-- THE RESULT, element by element. -/
theorem resultOf_apply (r : Fin 100000) (j : Fin 16) :
    resultOf c XA XE fc fr (ix2 r j : S100000x16.Idx) = valueAt XA (latBlock XA XE) r j := by
  have hr : r.val < 100000 := r.isLt
  have hq : r.val / 1000 < k0_t2_loop.trips := by rw [trips2]; omega
  have hi : inTile (ix2 r j : S100000x16.Idx) = (ix2 ⟨r.val % 1000, Nat.mod_lt _ (by decide)⟩ j : S1000x16.Idx) := by
    funext a
    match a with
    | ⟨0, _⟩ => rfl
    | ⟨1, _⟩ => rfl
  unfold resultOf outFinal
  rw [hi]
  refine (outData_apply c XA XE fc fr ⟨r.val / 1000, hq⟩ ⟨r.val % 1000, Nat.mod_lt _ (by decide)⟩ j).trans ?_
  refine congrArg (fun r => valueAt XA (latBlock XA XE) r j) (Fin.ext ?_)
  show 1000 * (Ring.bk 100 (r.val / 1000)).val + r.val % 1000 = r.val
  rw [Ring.bk_val (by omega)]; omega

end Result

end Cert.Proof.Run
end
-- ==== Proof.Mathematics.lean ====
/-
  The reference's value, at the extended reals: its operations read element by element give the same plain terms.
-/
module

public import proofs.«01_k».proof.Proof.Result
public import proofs.«01_k».proof.Proof.Gen.ReferenceIdeal.Run

@[expose] public section

noncomputable section

namespace Cert.Proof.Mathematics

open Cert.ReferenceIdeal Cert.ReferenceIdeal.Gen
open Idealize.ShloMosaic
open Idealize.ShloMosaic.TcCoe
open Idealize.ShloMosaic.ValueIdx
open Cert.Proof.Quant Cert.Proof.Run

variable (A : FVec Ideal S100000x512 .f32) (E : FVec Ideal S100000x16 .f32) (L : FVec Ideal S512x16 .f32)

/-- `adj.T @ embeds`. -/
abbrev hostLat : FVec Ideal S512x16 .f32 :=
  Host.dotGeneral dot_S512x100000_S100000x16_S512x16_1_0_0_1_n_n none (transpose S512x100000 [1, 0] A transposes_S100000x512_S512x100000_1_0) E
/-- `16256.0 / max(max|lat|, 1e-30)`. -/
abbrev hostScale : FVec Ideal S_ .f32 :=
  Host.divf (constant S_ .f32 0x467E0000#32) (maximumf (Host.reduce FloatOps.maximumf (Host.absf L) (constant S_ .f32 0xFF800000#32) reducesTo_S512x16_S_d0_1 h_S_) (constant S_ .f32 0x0DA24260#32))
/-- `clip(round(adj * 254 - 127), -128, 127)`. -/
abbrev hostSteps : FVec Ideal S100000x512 .f32 :=
  minimumf (broadcastInDim S100000x512 ![] bcast_S_S100000x512 (id (constant S_ .f32 0x42FE0000#32))) (maximumf (broadcastInDim S100000x512 ![] bcast_S_S100000x512 (id (constant S_ .f32 0xC3000000#32))) (Host.roundeven (subf (mulf A (broadcastInDim S100000x512 ![] bcast_S_S100000x512 (constant S_ .f32 0x437E0000#32))) (broadcastInDim S100000x512 ![] bcast_S_S100000x512 (constant S_ .f32 0x42FE0000#32)))))
/-- `round(lat * scale)`. -/
abbrev hostCodes : FVec Ideal S512x16 .f32 := Host.roundeven (mulf L (broadcastInDim S512x16 ![] bcast_S_S512x16 (hostScale L)))
/-- The whole reference, given `lat`. -/
abbrev hostValue : FVec Ideal S100000x16 .f32 :=
  addf (mulf (Host.dotGeneral dot_S100000x512_S512x16_S100000x16_1_0_0_1_n_n none (hostSteps A) (hostCodes L)) (broadcastInDim S100000x16 ![] bcast_S_S100000x16 (Host.divf (constant S_ .f32 0x3F800000#32) (mulf (constant S_ .f32 0x437E0000#32) (hostScale L))))) (broadcastInDim S100000x16 ![0, 1] bcast_S1x16_S100000x16_0_1 (broadcastInDim S1x16 ![1] bcast_S16_S1x16_1 (mulf (broadcastInDim S16 ![] bcast_S_S16 (constant S_ .f32 0x3F000000#32)) (Host.reduceAdd L (constant S_ .f32 0x00000000#32) reducesTo_S512x16_S16_d0 h_S_))))

/-- Its latent block is the plain one. -/
theorem hostLat_eq : hostLat A E = latBlock A E := by
  funext x
  rw [eq_ix2 x]
  refine (Ideal.dotGeneral_apply _ _ _ _ _ _).trans ?_
  rw [← Equiv.sum_comp (contrEquiv1 dot_S512x100000_S100000x16_S512x16_1_0_0_1_n_n 100000 rfl rfl).symm]
  unfold latBlock latSum
  refine Finset.sum_congr rfl fun r _ => ?_
  have hk := contrEquiv1_symm_val dot_S512x100000_S100000x16_S512x16_1_0_0_1_n_n 100000 rfl rfl r
  refine congrArg₂ (· * ·) (transpose_apply _ _ _ _ (ix2 r (x 0) : S100000x512.Idx) fun b => ?_) (congrArg E (funext fun a => Fin.ext ?_))
  · match b with
    | ⟨0, _⟩ => rfl
    | ⟨1, _⟩ => exact hk.symm
  · match a with
    | ⟨0, _⟩ => exact hk
    | ⟨1, _⟩ => rfl

/-- Its scale is the plain one. -/
theorem hostScale_eq : hostScale L ix0 = scaleOf L := by
  have hall : (Finset.univ.filter fun i => reducesTo_S512x16_S_d0_1.drop i = ix0) = (Finset.univ : Finset S512x16.Idx) :=
    Finset.filter_true_of_mem fun i _ => funext fun b => b.elim0
  have hmax : Host.reduce FloatOps.maximumf (Host.absf L) (constant S_ .f32 0xFF800000#32) reducesTo_S512x16_S_d0_1 h_S_ ix0 = largest L := by
    refine (Host.reduce_eq_fold (FloatOps.maximumf (F := Ideal) (φ := .f32)) (Host.absf L) (constant S_ .f32 0xFF800000#32) reducesTo_S512x16_S_d0_1 h_S_ ix0).trans ?_
    rw [hall]
    refine Eq.trans ?_ (fold_max_eq fun i => max (L i) (-(L i)))
    rw [← cbot]; rfl
  have key : ∀ M : FVec Ideal S_ .f32, Host.divf (constant S_ .f32 0x467E0000#32) (maximumf M (constant S_ .f32 0x0DA24260#32)) ix0
      = Ideal.div (Ideal.ofBits .f32 0x467E0000#32) (max (M ix0) (Ideal.ofBits .f32 0x0DA24260#32)) := fun M => rfl
  unfold scaleOf
  rw [← hmax]
  exact key _

theorem hostSteps_apply (i : S100000x512.Idx) : hostSteps A i = stepOf (A i) := by
  have hb : ∀ v : FVec Ideal S_ .f32, broadcastInDim S100000x512 ![] bcast_S_S100000x512 v i = v ix0 := fun v => broadcastInDim_scalar_apply _ v i
  have key : ∀ a b s t : FVec Ideal S100000x512 .f32,
      minimumf a (maximumf b (Host.roundeven (subf (mulf A s) t))) i = min (a i) (max (b i) (rnd (A i * s i - t i))) := fun a b s t => rfl
  refine (key _ _ _ _).trans ?_
  rw [hb, hb, hb, hb]
  rfl

theorem hostCodes_apply (i : S512x16.Idx) : hostCodes L i = codeOf L i := by
  unfold codeOf
  rw [← hostScale_eq]
  show rnd (L i * broadcastInDim S512x16 ![] bcast_S_S512x16 (hostScale L) i) = _
  rw [broadcastInDim_scalar_apply bcast_S_S512x16 (hostScale L) i]

/-- Its column sums are the plain ones. -/
theorem hostSum_apply (j : S16.Idx) : Host.reduceAdd L (constant S_ .f32 0x00000000#32) reducesTo_S512x16_S16_d0 h_S_ j = ∑ h : Fin 512, L (ix2 h (j 0)) := by
  have hw : S512x16.Reduces [0] S16 := by decide
  refine (hostReduceAdd_apply L _ _ _ j).trans ((Ideal.hostReduceAdd_single _ hw L _ j).trans ?_)
  show Ideal.ofBits .f32 0x00000000#32 + _ = _
  rw [Ideal.ofBits_zero_f32, zero_add]
  refine Finset.sum_congr rfl fun h _ => congrArg L (funext fun a => Fin.ext ?_)
  match a with
  | ⟨0, _⟩ => rfl
  | ⟨1, _⟩ => rfl

/-- THE REFERENCE'S VALUE, element by element. -/
theorem hostValue_apply (r : Fin 100000) (j : Fin 16) : hostValue A L (ix2 r j) = valueAt A L r j := by
  unfold valueAt
  refine congrArg₂ (· + ·) (congrArg₂ (· * ·) ?_ ?_) ?_
  · refine (Ideal.dotGeneral_apply _ _ _ _ _ _).trans ?_
    rw [← Equiv.sum_comp (contrEquiv1 dot_S100000x512_S512x16_S100000x16_1_0_0_1_n_n 512 rfl rfl).symm]
    refine Finset.sum_congr rfl fun h _ => ?_
    have hk := contrEquiv1_symm_val dot_S100000x512_S512x16_S100000x16_1_0_0_1_n_n 512 rfl rfl h
    rw [hostSteps_apply, hostCodes_apply]
    refine congrArg₂ (· * ·) (congrArg (fun x => stepOf (A x)) (funext fun a => Fin.ext ?_)) (congrArg (codeOf L) (funext fun a => Fin.ext ?_))
    · match a with
      | ⟨0, _⟩ => rfl
      | ⟨1, _⟩ => exact hk
    · match a with
      | ⟨0, _⟩ => exact hk
      | ⟨1, _⟩ => rfl
  · have key : ∀ s : FVec Ideal S_ .f32, Host.divf (constant S_ .f32 0x3F800000#32) (mulf (constant S_ .f32 0x437E0000#32) s) ix0
        = Ideal.div (Ideal.ofBits .f32 0x3F800000#32) (Ideal.ofBits .f32 0x437E0000#32 * s ix0) := fun s => rfl
    refine (broadcastInDim_scalar_apply bcast_S_S100000x16 _ _).trans ((key _).trans ?_)
    rw [hostScale_eq]
  · refine (broadcastInDim_apply _ _ _ _ (ix2 0 j : S1x16.Idx) fun a => ?_).trans ((broadcastInDim_apply _ _ _ _ (ix1 j : S16.Idx) fun a => ?_).trans ?_)
    · match a with
      | ⟨0, _⟩ => rfl
      | ⟨1, _⟩ => rfl
    · match a with
      | ⟨0, _⟩ => rfl
    · refine (mulf_apply _ _ _).trans (congrArg₂ (· * ·) ?_ (hostSum_apply L (ix1 j)))
      exact broadcastInDim_scalar_apply bcast_S_S16 _ _

end Cert.Proof.Mathematics
end
-- ==== Proof.Agree.lean ====
/-
  THE AGREEMENT: from the same arguments, at the extended reals, the kernel and the reference end with the same result.
-/
module

public import proofs.«01_k».proof.Proof.Mathematics

@[expose] public section

noncomputable section

namespace Cert.Proof

open Idealize.ShloMosaic
open Idealize.ShloMosaic.TcCoe
open Idealize.ShloMosaic.ValueIdx

/-- The common value: the plain terms of `valueAt`, at every element. -/
def value (A : Cert.KernelIdeal.S100000x512.Idx → EReal) (E : Cert.KernelIdeal.S100000x16.Idx → EReal) :
    Cert.KernelIdeal.S100000x16.Idx → EReal :=
  fun i => Run.valueAt A (Run.latBlock A E) (i 0) (i 1)

theorem resultOf_eq (c : Dev Cert.KernelIdeal.nD) (XA : Buf (Elt Ideal) (Run.adjM.view.loc (c : Thread Cert.KernelIdeal.nD Cert.KernelIdeal.τ)))
    (XE : Buf (Elt Ideal) (Run.embM.view.loc (c : Thread Cert.KernelIdeal.nD Cert.KernelIdeal.τ)))
    (fc : Buf (Elt Ideal) (Run.cacheM.view.loc (c : Thread Cert.KernelIdeal.nD Cert.KernelIdeal.τ)))
    (fr : Buf (Elt Ideal) (Run.rowM.view.loc (c : Thread Cert.KernelIdeal.nD Cert.KernelIdeal.τ))) :
    Run.resultOf c XA XE fc fr = value XA XE := by
  funext i
  rw [eq_ix2 i]
  exact Run.resultOf_apply c XA XE fc fr (i 0) (i 1)

theorem hostValue_eq (A : FVec Ideal Cert.ReferenceIdeal.S100000x512 .f32) (E : FVec Ideal Cert.ReferenceIdeal.S100000x16 .f32) :
    Mathematics.hostValue A (Mathematics.hostLat A E) = value A E := by
  rw [Mathematics.hostLat_eq]
  funext i
  rw [eq_ix2 i]
  exact Mathematics.hostValue_apply A _ (i 0) (i 1)

theorem agree : Cert.algebraic_KernelIdeal_ReferenceIdeal (hKernelIdeal := Cert.KernelIdeal.Gen.facts) (hReferenceIdeal := Cert.ReferenceIdeal.Gen.facts) := by
  intro m g m' g' _ hargs
  refine ⟨fun c => value (Run.XA m c) (Run.XE m c),
    (θ_run Cert.KernelIdeal.defs _ _).mono (fun r h c => ?_) (Run.run_main (F := Ideal) m g),
    (θ_run Cert.ReferenceIdeal.defs _ _).mono (fun r h c => ?_) (Cert.ReferenceIdeal.Value.run (F := Ideal) m' g')⟩
  · obtain ⟨hA, hE, fc, fr, hv⟩ := h.1 c
    exact ⟨hv.trans (resultOf_eq c _ _ fc fr), hA, hE⟩
  · obtain ⟨hv, hA, hE⟩ := h c
    refine ⟨?_, hA, hE⟩
    refine hv.trans ((hostValue_eq _ _).trans ?_)
    exact congrArg₂ value (hargs c).1 (hargs c).2

end Cert.Proof
end
-- ==== Proof.lean ====
/-
  The proof of `Cert.Claim`: the frames (Proof/Frames.lean), the preservation, which has nothing to show since no rule
  rewrote the kernel, and the agreement of the kernel with the reference (Proof/Agree.lean).
-/
module

public import proofs.«01_k».proof.Defs
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts,
    Run.frame_kernel, Run.frame_kernelIdeal, Run.frame_referenceIdeal, trivial, agree⟩

end Cert.Proof

end
